-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x128x512 : Shape := ⟨3, ![2, 128, 512]⟩
abbrev S512x512 : Shape := ⟨2, ![512, 512]⟩
abbrev S2x128x32x64 : Shape := ⟨4, ![2, 128, 32, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x32x64 : S_.BroadcastsInDim S2x128x32x64 (![] : Fin 0 → Fin S2x128x32x64.rank)

variable [Facts]

def fn {F : FTy → Type} [FloatOps F] (main_arg0 : FVec F S2x128x512 .f32) (main_arg1 : FVec F S512x512 .f32) (main_arg2 : FVec F S2x128x32x64 .f32) (main_arg3 : FVec F S2x128x32x64 .f32) (main_arg4 : FVec F S512x512 .f32) : IVec S2x128x512 1 × IVec S512x512 1 × IVec S2x128x32x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S2x128x32x64 .f32 := Host.absf main_arg2
  let main_cst_1 : FVec F S_ .f32 := constant S_ .f32 0x7F800000#32
  let main_v7 : FVec F S2x128x32x64 .f32 := broadcastInDim S2x128x32x64 ![] bcast_S_S2x128x32x64 main_cst_1
  let main_v8 : IVec S2x128x32x64 1 := cmpf .olt main_v6 main_v7
  (main_v2, main_v5, main_v8)
-- ==== Pre_finite_inputs_ReferenceIdeal.lean ====
abbrev S2x512x512 : Shape := ⟨3, ![2, 512, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x512x512 : S_.BroadcastsInDim S2x512x512 (![] : Fin 0 → Fin S2x512x512.rank)
  bcast_S_S512x2048 : S_.BroadcastsInDim S512x2048 (![] : Fin 0 → Fin S512x2048.rank)
  bcast_S_S2x128x32x64 : S_.BroadcastsInDim S2x128x32x64 (![] : Fin 0 → Fin S2x128x32x64.rank)

variable [Facts]

def fn {F : FTy → Type} [FloatOps F] (main_arg0 : FVec F S2x512x512 .f32) (main_arg1 : FVec F S512x2048 .f32) (main_arg2 : FVec F S2x128x32x64 .f32) (main_arg3 : FVec F S2x128x32x64 .f32) (main_arg4 : FVec F S2048x512 .f32) : IVec S2x512x512 1 × IVec S512x2048 1 × IVec S2x128x32x64 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2x128x32x64 .f32 := Host.absf main_arg2
  let main_cst_1 : FVec F S_ .f32 := constant S_ .f32 0x7F800000#32
  let main_v7 : FVec F S2x128x32x64 .f32 := broadcastInDim S2x128x32x64 ![] bcast_S_S2x128x32x64 main_cst_1
  let main_v8 : IVec S2x128x32x64 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S2x128x32x64 : Shape := ⟨4, ![2, 128, 32, 64]⟩
abbrev S_ : Shape := ⟨0, ![]⟩
abbrev S2x128x8x64 : Shape := ⟨4, ![2, 128, 8, 64]⟩
abbrev S2x8x128x64 : Shape := ⟨4, ![2, 8, 128, 64]⟩
abbrev S16x128x64 : Shape := ⟨3, ![16, 128, 64]⟩
abbrev S256x512 : Shape := ⟨2, ![256, 512]⟩
abbrev S4x256x512 : Shape := ⟨3, ![4, 256, 512]⟩
abbrev S3x2x128x512 : Shape := ⟨4, ![3, 2, 128, 512]⟩
abbrev S3x2 : Shape := ⟨2, ![3, 2]⟩
abbrev S4x2 : Shape := ⟨2, ![4, 2]⟩
abbrev S1x256x512 : Shape := ⟨3, ![1, 256, 512]⟩
abbrev S8x64x512 : Shape := ⟨3, ![8, 64, 512]⟩
abbrev S8x128x64 : Shape := ⟨3, ![8, 128, 64]⟩
abbrev S1x1 : Shape := ⟨2, ![1, 1]⟩
abbrev S1x128x512 : Shape := ⟨3, ![1, 128, 512]⟩
abbrev S128x512 : Shape := ⟨2, ![128, 512]⟩
abbrev S128x8x64 : Shape := ⟨3, ![128, 8, 64]⟩
abbrev S8x128x128 : Shape := ⟨3, ![8, 128, 128]⟩
abbrev S8x128 : Shape := ⟨2, ![8, 128]⟩
abbrev S8x128x1 : Shape := ⟨3, ![8, 128, 1]⟩
abbrev S8x128x512 : Shape := ⟨3, ![8, 128, 512]⟩
abbrev S1x1x128x512 : Shape := ⟨4, ![1, 1, 128, 512]⟩

abbrev nBuf : Space → Nat
  | .hbm => 40
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x32x64, .f32⟩
  | .hbm, ⟨3, _⟩ => ⟨S2x128x32x64, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x8x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x8x64, .f32⟩
  | .hbm, ⟨33, _⟩ => ⟨S2x8x128x64, .f32⟩
  | .hbm, ⟨34, _⟩ => ⟨S16x128x64, .f32⟩
  | .hbm, ⟨35, _⟩ => ⟨S2x8x128x64, .f32⟩
  | .hbm, ⟨36, _⟩ => ⟨S16x128x64, .f32⟩
  | .hbm, ⟨37, _⟩ => ⟨S256x512, .f32⟩
  | .hbm, ⟨38, _⟩ => ⟨S256x512, .f32⟩
  | .hbm, ⟨39, _⟩ => ⟨S2x128x512, .f32⟩
  | .local _ .vmem, ⟨0, _⟩ => ⟨S256x512, .f32⟩
  | .local _ .vmem, ⟨1, _⟩ => ⟨S512x512, .f32⟩
  | .local _ .vmem, ⟨2, _⟩ => ⟨S512x512, .f32⟩
  | .local _ .vmem, ⟨3, _⟩ => ⟨S16x128x64, .f32⟩
  | .local _ .vmem, ⟨4, _⟩ => ⟨S16x128x64, .f32⟩
  | .local _ .vmem, ⟨5, _⟩ => ⟨S256x512, .f32⟩
  | .local _ .vmem, ⟨6, _⟩ => ⟨S4x256x512, .bf16⟩
  | .local _ .vmem, ⟨7, _⟩ => ⟨S3x2x128x512, .bf16⟩
  | .local _ .vmem, ⟨8, _⟩ => ⟨S3x2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_11 : BitVec 32 := 1#32
  let v17 : BitVec 32 := Scalar.muli v5 c1_i32_11
  let v18 : BitVec 32 := Scalar.addi c0_i32 v17
  v18.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v19 : BitVec 32 := Scalar.muli v7 c1_i32_13
  let v20 : BitVec 32 := Scalar.addi c0_i32_14 v19
  v20.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v44 : BitVec 32 := Scalar.muli v7 c1_i32_38
  let v45 : BitVec 32 := Scalar.addi c0_i32_39 v44
  v45.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_50 : BitVec 32 := 1#32
  let v54 : BitVec 32 := Scalar.muli v5 c1_i32_50
  let v55 : BitVec 32 := Scalar.addi c0_i32_51 v54
  v55.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_62 : BitVec 32 := 1#32
  let v64 : BitVec 32 := Scalar.muli v7 c1_i32_62
  let v65 : BitVec 32 := Scalar.addi c0_i32_63 v64
  v65.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_73 : BitVec 32 := 1#32
  let v74 : BitVec 32 := Scalar.muli v5 c1_i32_73
  let v75 : BitVec 32 := Scalar.addi c0_i32_74 v74
  v75.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_106 : BitVec 32 := 1#32
  let v111 : BitVec 32 := Scalar.muli v9 c1_i32_106
  let v112 : BitVec 32 := Scalar.addi c0_i32_107 v111
  v112.toNat
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_118 : BitVec 32 := 1#32
  let v121 : BitVec 32 := Scalar.muli v9 c1_i32_118
  let v122 : BitVec 32 := Scalar.addi c0_i32_119 v121
  v122.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_145 : BitVec 32 := 1#32
  let v153 : BitVec 32 := Scalar.muli v5 c1_i32_145
  let v154 : BitVec 32 := Scalar.addi c0_i32_146 v153
  v154.toNat
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_184 : BitVec 32 := 1#32
  let v193 : BitVec 32 := Scalar.muli v5 c1_i32_184
  let v194 : BitVec 32 := Scalar.addi c0_i32_185 v193
  v194.toNat
def k0_dev11 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_223 : BitVec 32 := 1#32
  let v233 : BitVec 32 := Scalar.muli v7 c1_i32_223
  let v234 : BitVec 32 := Scalar.addi c0_i32_224 v233
  v234.toNat
def k0_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_262 : BitVec 32 := 1#32
  let v273 : BitVec 32 := Scalar.muli v9 c1_i32_262
  let v274 : BitVec 32 := Scalar.addi c0_i32_263 v273
  v274.toNat
def k0_dev13 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_302 : BitVec 32 := 1#32
  let v313 : BitVec 32 := Scalar.muli v9 c1_i32_302
  let v314 : BitVec 32 := Scalar.addi c0_i32_303 v313
  v314.toNat
def k0_dev14 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_342 : BitVec 32 := 1#32
  let v353 : BitVec 32 := Scalar.muli v7 c1_i32_342
  let v354 : BitVec 32 := Scalar.addi c0_i32_343 v353
  v354.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x2048 : Shape := ⟨2, ![512, 2048]⟩
abbrev S2x128x32x64 : Shape := ⟨4, ![2, 128, 32, 64]⟩
abbrev S2048x512 : Shape := ⟨2, ![2048, 512]⟩
abbrev S2x512x2048 : Shape := ⟨3, ![2, 512, 2048]⟩
abbrev S2x512x32x64 : Shape := ⟨4, ![2, 512, 32, 64]⟩
abbrev S2x32x512x128 : Shape := ⟨4, ![2, 32, 512, 128]⟩
abbrev S_ : Shape := ⟨0, ![]⟩
abbrev S2x32x512 : Shape := ⟨3, ![2, 32, 512]⟩
abbrev S2x32x512x1 : Shape := ⟨4, ![2, 32, 512, 1]⟩
abbrev S2x32x64x512 : Shape := ⟨4, ![2, 32, 64, 512]⟩
abbrev S2x512x32x1 : Shape := ⟨4, ![2, 512, 32, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x2048, .f32⟩
  | .hbm, ⟨2, _⟩ => ⟨S2x128x32x64, .f32⟩
  | .hbm, ⟨3, _⟩ => ⟨S2x128x32x64, .f32⟩
  | .hbm, ⟨4, _⟩ => ⟨S2048x512, .f32⟩
  | .hbm, ⟨5, _⟩ => ⟨S2x512x2048, .f32⟩
  | .hbm, ⟨6, _⟩ => ⟨S2x512x32x64, .f32⟩
  | .hbm, ⟨7, _⟩ => ⟨S2x32x512x128, .f32⟩
  | .hbm, ⟨8, _⟩ => ⟨S_, .f32⟩
  | .hbm, ⟨9, _⟩ => ⟨S2x32x512x128, .f32⟩
  | .hbm, ⟨10, _⟩ => ⟨S2x32x512x128, .f32⟩
  | .hbm, ⟨11, _⟩ => ⟨S_, .f32⟩
  | .hbm, ⟨12, _⟩ => ⟨S2x32x512, .f32⟩
  | .hbm, ⟨13, _⟩ => ⟨S2x32x512x1, .f32⟩
  | .hbm, ⟨14, _⟩ => ⟨S2x32x512x128, .f32⟩
  | .hbm, ⟨15, _⟩ => ⟨S2x32x512x128, .f32⟩
  | .hbm, ⟨16, _⟩ => ⟨S2x32x512x128, .f32⟩
  | .hbm, ⟨17, _⟩ => ⟨S_, .f32⟩
  | .hbm, ⟨18, _⟩ => ⟨S2x32x512, .f32⟩
  | .hbm, ⟨19, _⟩ => ⟨S2x32x512x1, .f32⟩
  | .hbm, ⟨20, _⟩ => ⟨S2x32x64x512, .f32⟩
  | .hbm, ⟨21, _⟩ => ⟨S2x512x32x64, .f32⟩
  | .hbm, ⟨22, _⟩ => ⟨S2x512x32x1, .f32⟩
  | .hbm, ⟨23, _⟩ => ⟨S2x512x32x64, .f32⟩
  | .hbm, ⟨24, _⟩ => ⟨S2x512x32x64, .f32⟩
  | .hbm, ⟨25, _⟩ => ⟨S2x512x2048, .f32⟩
  | .hbm, ⟨26, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Protocol.lean ====
/-
The protocol of the kernel, stated before any run of it.

Four devices. Device `c` has a ring neighbour on either side (`c + 1`, `c + 3`) and one opposite it (`c + 2`). Every
device sends its activations to the three others (six copies, two halves each), computes for each device's activations the part of
the output its own heads give, and sends those parts home (six more copies). Copy `k` is numbered in the order of issue.

* Barrier cell: two units, one from each neighbour. The unit from the LEFT neighbour hands over that neighbour's
  landing places for what goes left and for what goes to the opposite device; the unit from the RIGHT neighbour the
  places for what goes right.
* Receive cell of copy `k`: one landing, which hands over the place at the contents named here. Copy 0 also forwards
  the places the opposite device's copies land in, so that nothing is sent to the opposite device before it is ready.
* Send cell of copy `k`: the landing gives back the source share.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.RegionTalk
public import Idealize.ShloMosaic.Lib.Pipeline.Launch
public import Idealize.ShloMosaic.Lib.Pipeline.Kit
public import Idealize.ShloMosaic.Lib.Tactic

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB := URounds (GSem nD τ sig) Bool
abbrev UU := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
/-- The neighbour on the right. -/
def rgt (c : Dev nD) : Dev nD := ⟨(c.val + 1) % 4, Nat.mod_lt _ (by decide)⟩
set_option backward.proofsInPublic true in
/-- The neighbour on the left. -/
def lft (c : Dev nD) : Dev nD := ⟨(c.val + 3) % 4, Nat.mod_lt _ (by decide)⟩
set_option backward.proofsInPublic true in
/-- The opposite device. -/
def dia (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem dia_dia (c : Dev nD) : dia (dia c) = c := by revert c; decide
theorem dia_rgt (c : Dev nD) : dia (rgt c) = lft c := by revert c; decide

/-! ## Semaphores and cells -/

/-- The semaphore that tells the sender that copy `k` has left. -/
def sendS : Fin 12 → DmaSem sig
  | 0 => ⟨6, by decide⟩ | 1 => ⟨8, by decide⟩ | 2 => ⟨7, by decide⟩ | 3 => ⟨9, by decide⟩
  | 4 => ⟨10, by decide⟩ | 5 => ⟨11, by decide⟩ | 6 => ⟨20, by decide⟩ | 7 => ⟨21, by decide⟩
  | 8 => ⟨22, by decide⟩ | 9 => ⟨24, by decide⟩ | 10 => ⟨25, by decide⟩ | 11 => ⟨23, by decide⟩

/-- The semaphore that tells the receiver that copy `k` has landed. -/
def recvS : Fin 12 → DmaSem sig
  | 0 => ⟨14, by decide⟩ | 1 => ⟨16, by decide⟩ | 2 => ⟨15, by decide⟩ | 3 => ⟨17, by decide⟩
  | 4 => ⟨18, by decide⟩ | 5 => ⟨19, by decide⟩ | 6 => ⟨28, by decide⟩ | 7 => ⟨29, by decide⟩
  | 8 => ⟨26, by decide⟩ | 9 => ⟨30, by decide⟩ | 10 => ⟨31, by decide⟩ | 11 => ⟨27, by decide⟩

/-- Which copy a semaphore belongs to, and on which side: `inl` the sender's, `inr` the receiver's. -/
def kind (s : DmaSem sig) : Option (Fin 12 ⊕ Fin 12) :=
  match s.val with
  | 6 => some (.inl 0) | 8 => some (.inl 1) | 7 => some (.inl 2) | 9 => some (.inl 3)
  | 10 => some (.inl 4) | 11 => some (.inl 5) | 20 => some (.inl 6) | 21 => some (.inl 7)
  | 22 => some (.inl 8) | 24 => some (.inl 9) | 25 => some (.inl 10) | 23 => some (.inl 11)
  | 14 => some (.inr 0) | 16 => some (.inr 1) | 15 => some (.inr 2) | 17 => some (.inr 3)
  | 18 => some (.inr 4) | 19 => some (.inr 5) | 28 => some (.inr 6) | 29 => some (.inr 7)
  | 26 => some (.inr 8) | 30 => some (.inr 9) | 31 => some (.inr 10) | 27 => some (.inr 11)
  | _ => none

theorem kind_send (k : Fin 12) : kind (sendS k) = some (.inl k) := by revert k; decide
theorem kind_recv (k : Fin 12) : kind (recvS k) = some (.inr k) := by revert k; decide

/-- The device copy `k` of device `c` goes to. -/
def tgt (c : Dev nD) : Fin 12 → Dev nD
  | 0 => rgt c | 1 => lft c | 2 => rgt c | 3 => lft c | 4 => dia c | 5 => dia c
  | 6 => lft c | 7 => lft c | 8 => rgt c | 9 => dia c | 10 => dia c | 11 => rgt c
/-- The device copy `k` arriving at device `c` comes from. -/
def org (c : Dev nD) : Fin 12 → Dev nD
  | 0 => lft c | 1 => rgt c | 2 => lft c | 3 => rgt c | 4 => dia c | 5 => dia c
  | 6 => rgt c | 7 => rgt c | 8 => lft c | 9 => dia c | 10 => dia c | 11 => lft c

theorem org_tgt (c : Dev nD) (k : Fin 12) : org (tgt c k) k = c := by revert c k; decide
theorem tgt_org (c : Dev nD) (k : Fin 12) : tgt (org c k) k = c := by revert c k; decide

abbrev barS : Sem sig := (SemArray.scalar (sig.barrier 0 rfl) : Sems sig S_).sem
abbrev barCell (c : Dev nD) : GSem nD τ sig := ((c : Thread nD τ), .reg barS)
abbrev sendCell (c : Dev nD) (k : Fin 12) : GSem nD τ sig := ((c : Thread nD τ), .dma (sendS k))
abbrev recvCell (c : Dev nD) (k : Fin 12) : GSem nD τ sig := ((c : Thread nD τ), .dma (recvS k))

/-! ## Places -/

theorem inbX (s : Fin 4) (b : Fin 2) (a : Fin 3) :
    (![s.val, 128 * b.val, 0] : Fin 3 → ℕ) a + S1x128x512.size a ≤ S4x256x512.size a := by
  revert s b a; decide
theorem inbP (i : Fin 3) (b : Fin 2) (a : Fin 4) :
    (![i.val, b.val, 0, 0] : Fin 4 → ℕ) a + S1x1x128x512.size a ≤ S3x2x128x512.size a := by
  revert i b a; decide

abbrev rectX (s : Fin 4) (b : Fin 2) : Rect S4x256x512 := Rect.unit (s := S4x256x512) ![s.val, 128 * b.val, 0] S1x128x512.size (inbX s b)
abbrev rectP (i : Fin 3) (b : Fin 2) : Rect S3x2x128x512 := Rect.unit (s := S3x2x128x512) ![i.val, b.val, 0, 0] S1x1x128x512.size (inbP i b)

abbrev xb : Memref sig .tc .vmem S4x256x512 .bf16 := Memref.whole cc0_scratch0
abbrev pb : Memref sig .tc .vmem S3x2x128x512 .bf16 := Memref.whole cc0_scratch1
abbrev rb : Memref sig .tc .vmem S3x2x128x512 .bf16 := Memref.whole cc0_scratch2

/-- Half `b` of slot `s` of the activations' buffer. -/
abbrev mX (s : Fin 4) (b : Fin 2) : Memref sig .tc .vmem S128x512 .bf16 :=
  (xb.slice (rectX s b) (fun _ => rfl)).squeeze S128x512 squeezes_S1x128x512_S128x512
/-- Part `(i, b)` of the outgoing parts' buffer. -/
abbrev mP (i : Fin 3) (b : Fin 2) : Memref sig .tc .vmem S128x512 .bf16 :=
  (pb.slice (rectP i b) (fun _ => rfl)).squeeze S128x512 squeezes_S1x1x128x512_S128x512
/-- Part `(i, b)` of the incoming parts' buffer. -/
abbrev mR (i : Fin 3) (b : Fin 2) : Memref sig .tc .vmem S128x512 .bf16 :=
  (rb.slice (rectP i b) (fun _ => rfl)).squeeze S128x512 squeezes_S1x1x128x512_S128x512

abbrev N : ℕ := (mX 0 0).view.dmaCredit
theorem N_pos : 0 < N := View.dmaCredit_pos _ (by decide)

abbrev BufX := (cc0_scratch0 : Ref sig .tc).ty.Contents (Elt F)
abbrev BufP := (cc0_scratch1 : Ref sig .tc).ty.Contents (Elt F)
abbrev BufR := (cc0_scratch2 : Ref sig .tc).ty.Contents (Elt F)

abbrev ptX (c : Dev nD) (s : Fin 4) (b : Fin 2) (q : PosShare TreeShare) (f : BufX (F := F)) : sProp 𝕄 :=
  ((c : Thread nD τ).loc cc0_scratch0) ↦[(mX s b).view.set]{q} f
abbrev ptP (c : Dev nD) (i : Fin 3) (b : Fin 2) (f : BufP (F := F)) : sProp 𝕄 :=
  ((c : Thread nD τ).loc cc0_scratch1) ↦[(mP i b).view.set]{fullShare} f
abbrev ptR (c : Dev nD) (i : Fin 3) (b : Fin 2) (f : BufR (F := F)) : sProp 𝕄 :=
  ((c : Thread nD τ).loc cc0_scratch2) ↦[(mR i b).view.set]{fullShare} f

/-! ## Contents -/

/-- What a device loads from its five windows. -/
structure Inp (F : FTy → Type) where
  x : Vec F S256x512 .f32
  wq : Vec F S512x512 .f32
  wo : Vec F S512x512 .f32
  k : Fin 2 → Vec F S8x128x64 .f32
  v : Fin 2 → Vec F S8x128x64 .f32

variable (I : Dev nD → Inp F)

/-- Whose activations slot `s` of device `c` holds. -/
def xsrc (c : Dev nD) : Fin 4 → Dev nD
  | 0 => c | 1 => lft c | 2 => rgt c | 3 => dia c

set_option backward.proofsInPublic true in
/-- What the activations' buffer of device `c` holds once everything has landed. -/
def xfin (c : Dev nD) : BufX (F := F) := fun i =>
  k0_pay1 (I (xsrc c (i 0))).x (fun a => match a with | 0 => (0 : Fin 1) | 1 => i 1 | 2 => i 2)

/-- Half `b` of slot `s`, as loaded. -/
abbrev ldX (c : Dev nD) (s : Fin 4) (b : Fin 2) : Vec F S1x128x512 .bf16 :=
  (xb.access (rectX s b)).read (Elt F) (xfin I c)

def keys (J : Inp F) : Fin 2 → FVec F S8x128x64 .bf16
  | 0 => k0_pay4 (J.k 0) | 1 => k0_pay5 (J.k 1)
def vals (J : Inp F) : Fin 2 → FVec F S8x128x64 .bf16
  | 0 => k0_pay6 (J.v 0) | 1 => k0_pay7 (J.v 1)

/-- The part of the output that the heads of the device with inputs `J` give for the activations `w` of half `b`. -/
def part (J : Inp F) (b : Fin 2) (w : Vec F S1x128x512 .bf16) : FVec F S1x1x128x512 .bf16 :=
  k0_pay10 (k0_pay3 J.wo) (k0_pay9 (k0_pay2 J.wq) (keys J b) (vals J b) w)

set_option backward.proofsInPublic true in
/-- What the outgoing parts' buffer holds in the end. -/
def pfin (c : Dev nD) : BufP (F := F) := fun i =>
  part (I c) (i 1) (ldX I c (Fin.succ (i 0)) (i 1)) (fun a => match a with | 0 => (0 : Fin 1) | 1 => (0 : Fin 1) | 2 => i 2 | 3 => i 3)

/-- Whose part lands in slot `j`. -/
def rsrc (c : Dev nD) : Fin 3 → Dev nD
  | 0 => lft c | 1 => rgt c | 2 => dia c
/-- Which of the sender's parts lands in slot `j`. -/
def rpart : Fin 3 → Fin 3
  | 0 => 1 | 1 => 0 | 2 => 2

set_option backward.proofsInPublic true in
/-- What the incoming parts' buffer holds in the end. -/
def rfin (c : Dev nD) : BufR (F := F) := fun i =>
  pfin I (rsrc c (i 0)) (fun a => match a with | 0 => rpart (i 0) | 1 => i 1 | 2 => i 2 | 3 => i 3)

/-! ## Shares of the activations a device sends three times -/

/-- The share kept, and the three sent with. -/
def shr : Fin 4 → PosShare TreeShare
  | 0 => fullShare.left.left | 1 => fullShare.left.right | 2 => fullShare.right.left | 3 => fullShare.right.right

/-! ## Payloads -/

/-- Where copy `k` lands. -/
abbrev dstM : Fin 12 → Memref sig .tc .vmem S128x512 .bf16
  | 0 => mX 1 0 | 1 => mX 2 0 | 2 => mX 1 1 | 3 => mX 2 1 | 4 => mX 3 0 | 5 => mX 3 1
  | 6 => mR 1 0 | 7 => mR 1 1 | 8 => mR 0 0 | 9 => mR 2 0 | 10 => mR 2 1 | 11 => mR 0 1

/-- Device `n`'s landing place of copy `k`, at any contents, ready for it. -/
def land (n : Dev nD) : Fin 12 → sProp 𝕄
  | 0 => iprop((∃ f, ptX n 1 0 fullShare f) ∗ reached ER (recvCell n 0) 0)
  | 1 => iprop((∃ f, ptX n 2 0 fullShare f) ∗ reached ER (recvCell n 1) 0)
  | 2 => iprop((∃ f, ptX n 1 1 fullShare f) ∗ reached ER (recvCell n 2) 0)
  | 3 => iprop((∃ f, ptX n 2 1 fullShare f) ∗ reached ER (recvCell n 3) 0)
  | 4 => iprop((∃ f, ptX n 3 0 fullShare f) ∗ reached ER (recvCell n 4) 0)
  | 5 => iprop((∃ f, ptX n 3 1 fullShare f) ∗ reached ER (recvCell n 5) 0)
  | 6 => iprop((∃ f, ptR n 1 0 f) ∗ reached ER (recvCell n 6) 0)
  | 7 => iprop((∃ f, ptR n 1 1 f) ∗ reached ER (recvCell n 7) 0)
  | 8 => iprop((∃ f, ptR n 0 0 f) ∗ reached ER (recvCell n 8) 0)
  | 9 => iprop((∃ f, ptR n 2 0 f) ∗ reached ER (recvCell n 9) 0)
  | 10 => iprop((∃ f, ptR n 2 1 f) ∗ reached ER (recvCell n 10) 0)
  | 11 => iprop((∃ f, ptR n 0 1 f) ∗ reached ER (recvCell n 11) 0)

/-- The places for what goes to the opposite device. -/
def diaLand (n : Dev nD) : sProp 𝕄 := iprop(land n 4 ∗ land n 5 ∗ land n 9 ∗ land n 10)

/-- What the landing of copy `k` hands to device `c`. -/
def payR (c : Dev nD) : Fin 12 → sProp 𝕄
  | 0 => iprop(ptX c 1 0 fullShare (xfin I c) ∗ diaLand (dia c))
  | 1 => ptX c 2 0 fullShare (xfin I c)
  | 2 => ptX c 1 1 fullShare (xfin I c)
  | 3 => ptX c 2 1 fullShare (xfin I c)
  | 4 => ptX c 3 0 fullShare (xfin I c)
  | 5 => ptX c 3 1 fullShare (xfin I c)
  | 6 => ptR c 1 0 (rfin I c)
  | 7 => ptR c 1 1 (rfin I c)
  | 8 => ptR c 0 0 (rfin I c)
  | 9 => ptR c 2 0 (rfin I c)
  | 10 => ptR c 2 1 (rfin I c)
  | 11 => ptR c 0 1 (rfin I c)

/-- What comes back to device `c` when copy `k` has left. -/
def payS (c : Dev nD) : Fin 12 → sProp 𝕄
  | 0 => ptX c 0 0 (shr 1) (xfin I c)
  | 1 => ptX c 0 0 (shr 2) (xfin I c)
  | 2 => ptX c 0 1 (shr 1) (xfin I c)
  | 3 => ptX c 0 1 (shr 2) (xfin I c)
  | 4 => ptX c 0 0 (shr 3) (xfin I c)
  | 5 => ptX c 0 1 (shr 3) (xfin I c)
  | 6 => ptP c 0 0 (pfin I c)
  | 7 => ptP c 0 1 (pfin I c)
  | 8 => ptP c 1 0 (pfin I c)
  | 9 => ptP c 2 0 (pfin I c)
  | 10 => ptP c 2 1 (pfin I c)
  | 11 => ptP c 1 1 (pfin I c)

/-- What the unit from the left neighbour hands to device `c`. -/
def barL (c : Dev nD) : sProp 𝕄 :=
  iprop(land (lft c) 1 ∗ land (lft c) 3 ∗ land (lft c) 6 ∗ land (lft c) 7 ∗ diaLand (lft c))
/-- What the unit from the right neighbour hands to device `c`. -/
def barR (c : Dev nD) : sProp 𝕄 :=
  iprop(land (rgt c) 0 ∗ land (rgt c) 2 ∗ land (rgt c) 8 ∗ land (rgt c) 11)

instance land_storable (n : Dev nD) (k : Fin 12) : BI.Storable (upEmb : UEmb _ 𝕄) (land (F := F) n k) := by
  fin_cases k <;> (dsimp only [land]; infer_instance)
instance diaLand_storable (n : Dev nD) : BI.Storable (upEmb : UEmb _ 𝕄) (diaLand (F := F) n) := by
  unfold diaLand; infer_instance
instance payR_storable (c : Dev nD) (k : Fin 12) : BI.Storable (upEmb : UEmb _ 𝕄) (payR I c k) := by
  fin_cases k <;> (dsimp only [payR]; infer_instance)
instance payS_storable (c : Dev nD) (k : Fin 12) : BI.Storable (upEmb : UEmb _ 𝕄) (payS I c k) := by
  fin_cases k <;> (dsimp only [payS]; infer_instance)
instance barL_storable (c : Dev nD) : BI.Storable (upEmb : UEmb _ 𝕄) (barL (F := F) c) := by
  unfold barL; infer_instance
instance barR_storable (c : Dev nD) : BI.Storable (upEmb : UEmb _ 𝕄) (barR (F := F) c) := by
  unfold barR; infer_instance

/-! ## The schedule -/

def dutiesOf : SemLoc sig → Finset Bool
  | .reg s => if s = barS then Finset.univ else ∅
  | .dma s => if (kind s).isSome then {false} else ∅
def amountOf' : SemLoc sig → ℕ
  | .reg _ => 1
  | .dma _ => N
def payloadOf (c : Dev nD) : SemLoc sig → Bool → sProp 𝕄
  | .reg _, false => barL c
  | .reg _, true => barR c
  | .dma s, _ => match kind s with
    | some (.inl k) => payS I c k
    | some (.inr k) => payR I c k
    | none => iprop(emp)

/-- One round: two units on every barrier cell, one landing on every send and receive cell. -/
def talkRd : Rounds.Schedule (GSem nD τ sig) Bool 𝕄 where
  duties g r := if r = 0 ∧ g.1.2 = .tc then dutiesOf g.2 else ∅
  unitless _ := False
  amount g _ _ := amountOf' g.2
  payload g _ d := payloadOf I g.1.1 g.2 d
  amount_pos g _ _ _ := by
    rcases g with ⟨t, s | s⟩
    · exact Nat.one_pos
    · exact N_pos

instance talkRd_payload_storable (g : GSem nD τ sig) (r : ℕ) (d : Bool) :
    BI.Storable (upEmb : UEmb _ 𝕄) ((talkRd I).payload g r d) := by
  show BI.Storable upEmb (payloadOf I g.1.1 g.2 d)
  rcases g with ⟨t, s | s⟩
  · cases d <;> (dsimp only [payloadOf]; infer_instance)
  · dsimp only [payloadOf]
    split <;> infer_instance

section Sched

variable (c : Dev nD) (k : Fin 12)

theorem duties_bar : (talkRd I).duties (barCell c) 0 = Finset.univ := by
  dsimp only [talkRd]; rw [if_pos ⟨rfl, rfl⟩]; dsimp only [dutiesOf]; rw [if_pos rfl]
theorem duties_send : (talkRd I).duties (sendCell c k) 0 = {false} := by
  dsimp only [talkRd]; rw [if_pos ⟨rfl, rfl⟩]; dsimp only [dutiesOf]; rw [kind_send]; rfl
theorem duties_recv : (talkRd I).duties (recvCell c k) 0 = {false} := by
  dsimp only [talkRd]; rw [if_pos ⟨rfl, rfl⟩]; dsimp only [dutiesOf]; rw [kind_recv]; rfl
theorem duties_later (g : GSem nD τ sig) : ∀ r, 1 ≤ r → (talkRd I).duties g r = ∅ :=
  fun r hr => by dsimp only [talkRd]; rw [if_neg (fun h => by omega)]

theorem amount_bar (d : Bool) : (talkRd I).amount (barCell c) 0 d = 1 := rfl
theorem amount_send (d : Bool) : (talkRd I).amount (sendCell c k) 0 d = N := rfl
theorem amount_recv (d : Bool) : (talkRd I).amount (recvCell c k) 0 d = N := rfl

theorem expect_bar : (talkRd I).expect (barCell c) 0 = 2 := by
  unfold Schedule.expect Schedule.amountOf
  rw [duties_bar, Finset.sum_congr rfl fun d _ => amount_bar I c d, Finset.sum_const, Finset.card_univ, Fintype.card_bool, smul_eq_mul]
theorem expect_send : (talkRd I).expect (sendCell c k) 0 = N := by
  unfold Schedule.expect Schedule.amountOf; rw [duties_send, Finset.sum_singleton, amount_send]
theorem expect_recv : (talkRd I).expect (recvCell c k) 0 = N := by
  unfold Schedule.expect Schedule.amountOf; rw [duties_recv, Finset.sum_singleton, amount_recv]

theorem payload_bar_false : (talkRd I).payload (barCell c) 0 false = barL c := rfl
theorem payload_bar_true : (talkRd I).payload (barCell c) 0 true = barR c := rfl
theorem payload_send (d : Bool) : (talkRd I).payload (sendCell c k) 0 d = payS I c k := by
  dsimp only [talkRd, payloadOf]; rw [kind_send]
theorem payload_recv (d : Bool) : (talkRd I).payload (recvCell c k) 0 d = payR I c k := by
  dsimp only [talkRd, payloadOf]; rw [kind_recv]

theorem rest_bar : bigSep ((talkRd I).duties (barCell c) 0 \ ∅) (fun d => (talkRd I).payload (barCell c) 0 d) = iprop(barL c ∗ barR c) := by
  rw [Finset.sdiff_empty, duties_bar, bigSep_univ_eq_bigSepL [false, true] (by decide) (by decide), bigSepL_cons_cons, bigSepL_singleton,
    payload_bar_false, payload_bar_true]; rfl
theorem rest_send : bigSep ((talkRd I).duties (sendCell c k) 0 \ ∅) (fun d => (talkRd I).payload (sendCell c k) 0 d) = payS I c k := by
  rw [Finset.sdiff_empty, duties_send, bigSep_singleton, payload_send]
theorem rest_recv : bigSep ((talkRd I).duties (recvCell c k) 0 \ ∅) (fun d => (talkRd I).payload (recvCell c k) 0 d) = payR I c k := by
  rw [Finset.sdiff_empty, duties_recv, bigSep_singleton, payload_recv]

end Sched

/-! ## What each device owes, and the levels -/

/-- The landings device `c` still owes when the copies of `ks` are still to be issued. -/
def owedL (c : Dev nD) : List (Fin 12) → CellTallies nD τ sig Unit
  | [] => 0
  | k :: ks => owedL c ks + tallyAt (recvCell (tgt c k) k) () N

abbrev allK : List (Fin 12) := [0, 1, 2, 3, 4, 5, 6, 7, 8, 9, 10, 11]

/-- What device `c` owes at launch: twelve landings, and a unit to each neighbour. -/
def O₀ (c : Dev nD) : CellTallies nD τ sig Unit :=
  (owedL c allK + tallyAt (barCell (rgt c)) () 1) + tallyAt (barCell (lft c)) () 1

def L (g : GSem nD τ sig) : Finset Unit := if g.1.2 = .tc then {()} else ∅

/-- The level of a landing: the activations from the neighbours, from the opposite device, the parts. -/
def lvK (k : Fin 12) : ℕ := if k.val < 4 then 2 else if k.val < 6 then 3 else 4
def lvS : SemLoc sig → ℕ
  | .reg s => if s = barS then 1 else 0
  | .dma s => match kind s with | some (.inr k) => lvK k | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 12) (u : Unit) : lv (recvCell c k) u = lvK k := by
  dsimp only [lv, lvS]; rw [kind_recv]

/-- Something owed is one of the landings still to be issued. -/
theorem owedL_pos (c : Dev nD) : ∀ (ks : List (Fin 12)) (g : GSem nD τ sig) (u : Unit), 0 < owedL c ks g u →
    ∃ k ∈ ks, g = recvCell (tgt c k) k
  | [], g, u, h => absurd h (Nat.lt_irrefl 0)
  | k :: ks, g, u, h => by
    by_cases e : g = recvCell (tgt c k) k ∧ u = ()
    · exact ⟨k, List.mem_cons_self .., e.1⟩
    · have h' : 0 < owedL c ks g u := by
        have h2 : 0 < owedL c ks g u + tallyAt (recvCell (tgt c k) k) () N g u := h
        rwa [tallyAt_apply, if_neg e, Nat.add_zero] at h2
      obtain ⟨k', hk, he⟩ := owedL_pos c ks g u h'
      exact ⟨k', List.mem_cons_of_mem _ hk, he⟩

/-- A device may wait on a cell whose level lies below that of every landing it still owes. -/
theorem mayWait (c : Dev nD) (sm : SemLoc sig) (ks : List (Fin 12)) (h : ∀ k ∈ ks, lvS sm < lvK k) :
    (levAts L lv : sProp 𝕄) ⊢ MayWait (c : Thread nD τ) sm () (owedL c ks) :=
  MayOwe.of_cut (L := L) (lev := lv) (lvS sm) (fun p hp => by rw [Finset.mem_singleton.mp hp, L_tc]; exact Finset.mem_singleton_self _)
    (fun g u hg => by
      obtain ⟨k, hk, rfl⟩ := owedL_pos c ks g u hg
      rw [L_tc]; exact Finset.mem_singleton_self _)
    (fun p hp => by rw [Finset.mem_singleton.mp hp]; exact le_refl _)
    (fun g u hg => by
      obtain ⟨k, hk, rfl⟩ := owedL_pos c ks g u hg
      rw [lv_recv]; exact h k hk)

end Cert.Talk
-- ==== Proof.Steps.lean ====
/-
One lemma per kind of step of the kernel: a copy started, its landing waited for, its leaving waited for, the handshake; and
the loads and stores of a half slot.
-/
module

public import proofs.«01_k».proof.Proof.Protocol

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev 𝒱₀ : Variants := Variants.none

variable (I : Dev nD → Inp F)

/-! ## The ghost state in bundles -/

/-- Every cell of the protocol on device `n`, at the names `κ`. -/
def recs (κ : GSem nD τ sig → ℕ) : sProp 𝕄 :=
  iprop((∀ n : Dev nD, cellInv ER (talkRd I) (κ (barCell n)) (barCell n))
    ∗ (∀ p : Dev nD × Fin 12, cellInv ER (talkRd I) (κ (sendCell p.1 p.2)) (sendCell p.1 p.2))
    ∗ (∀ p : Dev nD × Fin 12, cellInv ER (talkRd I) (κ (recvCell p.1 p.2)) (recvCell p.1 p.2)))

instance recs_persistent (κ : GSem nD τ sig → ℕ) : BI.Persistent (recs I κ) := by unfold recs; infer_instance

theorem recs_bar (κ : GSem nD τ sig → ℕ) (n : Dev nD) : recs I κ ⊢ cellInv ER (talkRd I) (κ (barCell n)) (barCell n) := by
  unfold recs; iintro ⟨#H, -, -⟩; iapply H
theorem recs_send (κ : GSem nD τ sig → ℕ) (n : Dev nD) (k : Fin 12) :
    recs I κ ⊢ cellInv ER (talkRd I) (κ (sendCell n k)) (sendCell n k) := by
  unfold recs; iintro ⟨-, #H, -⟩; iapply H $$ %(n, k)
theorem recs_recv (κ : GSem nD τ sig → ℕ) (n : Dev nD) (k : Fin 12) :
    recs I κ ⊢ cellInv ER (talkRd I) (κ (recvCell n k)) (recvCell n k) := by
  unfold recs; iintro ⟨-, -, #H⟩; iapply H $$ %(n, k)

/-- What device `c` needs beside the two places to start copy `k`. -/
def copyRes (c : Dev nD) (k : Fin 12) : sProp 𝕄 :=
  iprop(dutyTok ER (sendCell c k) 0 false ∗ reached ER (sendCell c k) 0 ∗ dutyTok ER (recvCell (tgt c k) k) 0 false)
/-- What it needs to wait for the landing of copy `k`. -/
def recvRes (c : Dev nD) (k : Fin 12) : sProp 𝕄 :=
  iprop(cred (tallyAt (recvCell c k) () N) ∗ atPos ER (recvCell c k) 0 ∅ 0)
/-- What the landing leaves beside its payload. -/
def recvDone (c : Dev nD) (k : Fin 12) : sProp 𝕄 := atPos ER (recvCell c k) (0 + 1) ∅ 0
/-- The position on the send cell, before and after. -/
def sendPos (c : Dev nD) (k : Fin 12) : sProp 𝕄 := atPos ER (sendCell c k) 0 ∅ 0
def sendDone (c : Dev nD) (k : Fin 12) : sProp 𝕄 := atPos ER (sendCell c k) (0 + 1) ∅ 0
/-- The unit of credit a started copy leaves. -/
def sendCred (c : Dev nD) (k : Fin 12) : sProp 𝕄 := cred (tallyAt (sendCell c k) () N)
/-- What device `c` owes when the copies of `ks` are still to be started. -/
def ow (c : Dev nD) (ks : List (Fin 12)) : sProp 𝕄 := iprop(∃ W, owes (c : Thread nD τ) (owedL c ks) W)

variable {α : Type} {Q : α → sProp (MT nD τ sig Unit (Elt F) ℕ UU ℕ)}

/-- Starting copy `k`. -/
theorem send_step (κ : GSem nD τ sig → ℕ) (c : Dev nD) (k : Fin 12) (ks : List (Fin 12))
    {n : Dev nD} {src dst : Memref sig .tc .vmem S128x512 .bf16}
    {hsc : (dst : Memref sig ((n : Thread nD τ)).2.kind .vmem S128x512 .bf16).view.ref.isScScratch = false} {sS sR : SemLoc sig}
    {hsrc : src.view.WordExact} {hdst : dst.view.WordExact} {hsem : DmaTarget.Typed .vmem sR (.remote (n : Thread nD τ) dst sS hsc)}
    {kk : PUnit → Prog (TpuEff nD τ sig (Elt F) Λ₀ .tc) α} {q : PosShare TreeShare}
    {fs : Buf (Elt F) (src.view.loc (c : Thread nD τ))} {fd : Buf (Elt F) (dst.view.loc (n : Thread nD τ))} (F' : sProp 𝕄)
    (hn : n = tgt c k) (hS : sS = .dma (sendS k)) (hR : sR = .dma (recvS k)) (hN : dst.view.amount sR = N)
    (hpay₁ : (src.view.loc (c : Thread nD τ) ↦[src.view.set]{q} fs) ⊢ payS I c k)
    (hpay₂ : iprop((dst.view.loc (n : Thread nD τ) ↦[dst.view.set]{fullShare} (dst.view.write (Elt F) fd (src.view.read (Elt F) fs) Finset.univ)) ∗ F')
      ⊢ payR I n k) :
    iprop(recs I κ ∗ (src.view.loc (c : Thread nD τ) ↦[src.view.set]{q} fs)
        ∗ ((dst.view.loc (n : Thread nD τ) ↦[dst.view.set]{fullShare} fd) ∗ F')
        ∗ reached ER (recvCell n k) 0 ∗ copyRes c k ∗ ow c (k :: ks))
      ⊢ iprop(((sendCred c k ∗ ow c ks) -∗ wp frame (wpE (defs₀ (F := F)) 𝒱₀ c none) Set.univ (kk ⟨⟩) Q)
          -∗ wp frame (wpE (defs₀ (F := F)) 𝒱₀ c none) Set.univ (.op (.enqueueDma src (.remote (n : Thread nD τ) dst sS hsc) sR hsrc hdst hsem) kk) Q) := by
  subst hn hS hR
  unfold copyRes ow sendCred
  iintro ⟨#Hr, Hs, Hd, #HrR, ⟨Ht1, #HrS, Ht2⟩, ⟨%W, HO⟩⟩ Hk
  iapply (Rounds.wp_send_pointsTo_with 𝒱₀ ER (talkRd I) (c : Thread nD τ) none (c' := (tgt c k : Thread nD τ)) (src := src) (dst := dst)
      (sS := .dma (sendS k)) (sem := .dma (recvS k)) (q := q) (fs := fs) (κ₁ := κ (sendCell c k)) (κ₂ := κ (recvCell (tgt c k) k))
      (r₁ := 0) (r₂ := 0) (d₁ := false) (d₂ := false) (fd := fd) (F := F')
      (by rw [duties_send]; exact Finset.mem_singleton_self _) (by rw [duties_recv]; exact Finset.mem_singleton_self _)
      () () N hN (amount_send I c k false) (amount_recv I (tgt c k) k false) (owedL c ks) rfl (W := W)
      (by rw [payload_send]; exact hpay₁) (by rw [payload_recv]; exact hpay₂)) $$ [Hs Hd HO Ht1 Ht2]
  · isplitr; · iapply (recs_send I κ c k); iexact Hr
    isplitr; · iapply (recs_recv I κ (tgt c k) k); iexact Hr
    isplitl [Hs]; · iexact Hs
    isplitl [Hd]; · iexact Hd
    isplitl [HO]; · iexact HO
    isplitl [Ht1]; · iexact Ht1
    isplitr; · iexact HrS
    isplitl [Ht2]; · iexact Ht2
    iexact HrR
  iintro ⟨Hc, HO⟩
  iapply Hk
  isplitl [Hc]; · iexact Hc
  iexists W; iexact HO

/-- Waiting for the landing of copy `k`. -/
theorem recv_step (κ : GSem nD τ sig → ℕ) (c : Dev nD) (k : Fin 12) (ks : List (Fin 12))
    {sR : DmaSem sig} {src dst : Memref sig .tc .vmem S128x512 .bf16} {hsrc : src.view.WordExact} {hdst : dst.view.WordExact}
    {kk : PUnit → Prog (TpuEff nD τ sig (Elt F) Λ₀ .tc) α}
    (hR : sR = recvS k) (hN : dst.view.dmaCredit = N) (hl : ∀ j ∈ ks, lvK k < lvK j) :
    iprop(recs I κ ∗ levAts L lv ∗ recvRes c k ∗ ow c ks)
      ⊢ iprop(((payR I c k ∗ recvDone c k ∗ ow c ks) -∗ wp frame (wpE (defs₀ (F := F)) 𝒱₀ c none) Set.univ (kk ⟨⟩) Q)
          -∗ wp frame (wpE (defs₀ (F := F)) 𝒱₀ c none) Set.univ (.op (.waitDma2 sR src dst hsrc hdst) kk) Q) := by
  subst hR
  unfold recvRes recvDone ow
  iintro ⟨#Hr, #Hlev, ⟨Hc, Hat⟩, ⟨%W, HO⟩⟩ Hk
  iapply (Rounds.wp_wait_rest_token 𝒱₀ ER (talkRd I) (c : Thread nD τ) none (κ := κ (recvCell c k))
      (wpE_waitDma2_eq (src := src) (dst := dst) 𝒱₀ (c : Thread nD τ) none Set.univ) (Set.mem_univ _) () (O := owedL c ks) (W := W) (R := 0) (m := 0) (T := ∅)
      ((Nat.zero_add _).trans (hN.trans (expect_recv I c k).symm))) $$ [Hc HO Hat]
  · isplitr; · iapply (recs_recv I κ c k); iexact Hr
    isplitl [Hc]; · rw [hN]; iexact Hc
    isplitl [HO]; · iexact HO
    isplitr
    · iapply (mayWait c (.dma (recvS k)) ks (fun j hj => by
        have : lvS (.dma (recvS k)) = lvK k := by dsimp only [lvS]; rw [kind_recv]
        rw [this]; exact hl j hj))
      iexact Hlev
    iexact Hat
  iintro ⟨HO, Hat, -, Hpay⟩
  ihave Hp := (Entails.of_eq (rest_recv I c k)) $$ Hpay
  iapply Hk
  isplitl [Hp]; · iexact Hp
  isplitl [Hat]; · iexact Hat
  iexists _; iexact HO

/-- Waiting for copy `k` to have left; nothing is owed any more. -/
theorem drain_step (κ : GSem nD τ sig → ℕ) (c : Dev nD) (k : Fin 12)
    {sS : DmaSem sig} {src dst : Memref sig .tc .vmem S128x512 .bf16} {hsrc : src.view.WordExact} {hdst : dst.view.WordExact}
    {kk : PUnit → Prog (TpuEff nD τ sig (Elt F) Λ₀ .tc) α}
    (hS : sS = sendS k) (hN : dst.view.dmaCredit = N) :
    iprop(recs I κ ∗ sendPos c k ∗ sendCred c k ∗ ow c [])
      ⊢ iprop(((payS I c k ∗ sendDone c k ∗ ow c []) -∗ wp frame (wpE (defs₀ (F := F)) 𝒱₀ c none) Set.univ (kk ⟨⟩) Q)
          -∗ wp frame (wpE (defs₀ (F := F)) 𝒱₀ c none) Set.univ (.op (.waitDma2 sS src dst hsrc hdst) kk) Q) := by
  subst hS
  unfold sendPos sendCred sendDone ow
  iintro ⟨#Hr, Hat, Hc, ⟨%W, HO⟩⟩ Hk
  iapply (Rounds.wp_wait_rest_token 𝒱₀ ER (talkRd I) (c : Thread nD τ) none (κ := κ (sendCell c k))
      (wpE_waitDma2_eq (src := src) (dst := dst) 𝒱₀ (c : Thread nD τ) none Set.univ) (Set.mem_univ _) () (O := 0) (W := W) (R := 0) (m := 0) (T := ∅)
      ((Nat.zero_add _).trans (hN.trans (expect_send I c k).symm))) $$ [Hc HO Hat]
  · isplitr; · iapply (recs_send I κ c k); iexact Hr
    isplitl [Hc]; · rw [hN]; iexact Hc
    isplitl [HO]; · iexact HO
    isplitr; · rw [MayWait_zero]; iempintro
    iexact Hat
  iintro ⟨HO, Hat, -, Hpay⟩
  ihave Hp := (Entails.of_eq (rest_send I c k)) $$ Hpay
  iapply Hk
  isplitl [Hp]; · iexact Hp
  isplitl [Hat]; · iexact Hat
  iexists _; iexact HO

/-- The unit to the left neighbour: what it will send right lands here. -/
theorem signal_left (κ : GSem nD τ sig → ℕ) (c : Dev nD) {n : Dev nD} (hn : n = lft c)
    {kk : PUnit → Prog (TpuEff nD τ sig (Elt F) Λ₀ .tc) α} :
    iprop(recs I κ ∗ (∃ W, owes (c : Thread nD τ) (O₀ c) W) ∗ dutyTok ER (barCell (lft c)) 0 true ∗ reached ER (barCell (lft c)) 0
        ∗ land c 0 ∗ land c 2 ∗ land c 8 ∗ land c 11)
      ⊢ iprop(((∃ W, owes (c : Thread nD τ) (owedL c allK + tallyAt (barCell (rgt c)) () 1) W)
          -∗ wp frame (wpE (defs₀ (F := F)) 𝒱₀ c none) Set.univ (kk ⟨⟩) Q)
          -∗ wp frame (wpE (defs₀ (F := F)) 𝒱₀ c none) Set.univ (.op (.semSignal (n : Thread nD τ) barS 1) kk) Q) := by
  subst hn
  iintro ⟨#Hr, ⟨%W, HO⟩, Ht, #Hre, H0, H2, H8, H11⟩ Hk
  iapply (Rounds.wp_signal 𝒱₀ ER (talkRd I) (c : Thread nD τ) none (dst := (lft c : Thread nD τ)) (sem := barS) (r := 0) (d := true) (κ := κ (barCell (lft c)))
      (by rw [duties_bar]; exact Finset.mem_univ _) (amount_bar I (lft c) true) () (owedL c allK + tallyAt (barCell (rgt c)) () 1) rfl)
    $$ [HO Ht H0 H2 H8 H11]
  · isplitr; · iapply (recs_bar I κ (lft c)); iexact Hr
    isplitl [HO]; · iexact HO
    isplitl [Ht]; · iexact Ht
    isplitl [H0 H2 H8 H11]
    · rw [payload_bar_true]; unfold barR; rw [rgt_lft]
      isplitl [H0]; · iexact H0
      isplitl [H2]; · iexact H2
      isplitl [H8]; · iexact H8
      iexact H11
    · iexact Hre
  iintro HO
  iapply Hk
  iexists W; iexact HO

/-- The unit to the right neighbour: what it will send left lands here, and what the opposite device will send. -/
theorem signal_right (κ : GSem nD τ sig → ℕ) (c : Dev nD) {n : Dev nD} (hn : n = rgt c)
    {kk : PUnit → Prog (TpuEff nD τ sig (Elt F) Λ₀ .tc) α} :
    iprop(recs I κ ∗ (∃ W, owes (c : Thread nD τ) (owedL c allK + tallyAt (barCell (rgt c)) () 1) W)
        ∗ dutyTok ER (barCell (rgt c)) 0 false ∗ reached ER (barCell (rgt c)) 0
        ∗ land c 1 ∗ land c 3 ∗ land c 6 ∗ land c 7 ∗ diaLand c)
      ⊢ iprop((ow c allK -∗ wp frame (wpE (defs₀ (F := F)) 𝒱₀ c none) Set.univ (kk ⟨⟩) Q)
          -∗ wp frame (wpE (defs₀ (F := F)) 𝒱₀ c none) Set.univ (.op (.semSignal (n : Thread nD τ) barS 1) kk) Q) := by
  subst hn
  unfold ow
  iintro ⟨#Hr, ⟨%W, HO⟩, Ht, #Hre, H1, H3, H6, H7, H4⟩ Hk
  iapply (Rounds.wp_signal 𝒱₀ ER (talkRd I) (c : Thread nD τ) none (dst := (rgt c : Thread nD τ)) (sem := barS) (r := 0) (d := false) (κ := κ (barCell (rgt c)))
      (by rw [duties_bar]; exact Finset.mem_univ _) (amount_bar I (rgt c) false) () (owedL c allK) rfl)
    $$ [HO Ht H1 H3 H6 H7 H4]
  · isplitr; · iapply (recs_bar I κ (rgt c)); iexact Hr
    isplitl [HO]; · iexact HO
    isplitl [Ht]; · iexact Ht
    isplitl [H1 H3 H6 H7 H4]
    · rw [payload_bar_false]; unfold barL; rw [lft_rgt]
      isplitl [H1]; · iexact H1
      isplitl [H3]; · iexact H3
      isplitl [H6]; · iexact H6
      isplitl [H7]; · iexact H7
      iexact H4
    · iexact Hre
  iintro HO
  iapply Hk
  iexists W; iexact HO

/-- Waiting for both neighbours. -/
theorem bar_step (κ : GSem nD τ sig → ℕ) (c : Dev nD)
    {kk : PUnit → Prog (TpuEff nD τ sig (Elt F) Λ₀ .tc) α} :
    iprop(recs I κ ∗ levAts L lv ∗ cred (tallyAt (barCell c) () 2) ∗ atPos ER (barCell c) 0 ∅ 0 ∗ ow c allK)
      ⊢ iprop(((barL c ∗ barR c ∗ atPos ER (barCell c) (0 + 1) ∅ 0 ∗ ow c allK)
            -∗ wp frame (wpE (defs₀ (F := F)) 𝒱₀ c none) Set.univ (kk ⟨⟩) Q)
          -∗ wp frame (wpE (defs₀ (F := F)) 𝒱₀ c none) Set.univ (.op (.semWait barS 2) kk) Q) := by
  unfold ow
  iintro ⟨#Hr, #Hlev, Hc, Hat, ⟨%W, HO⟩⟩ Hk
  iapply (Rounds.wp_wait_rest_token 𝒱₀ ER (talkRd I) (c : Thread nD τ) none (κ := κ (barCell c))
      (wpE_semWait_eq 𝒱₀ (c : Thread nD τ) none Set.univ) (Set.mem_univ _) () (O := owedL c allK) (W := W) (R := 0) (m := 0) (T := ∅)
      ((Nat.zero_add 2).trans (expect_bar I c).symm)) $$ [Hc HO Hat]
  · isplitr; · iapply (recs_bar I κ c); iexact Hr
    isplitl [Hc]; · iexact Hc
    isplitl [HO]; · iexact HO
    isplitr; · iapply (mayWait c (.reg barS) allK (by decide)); iexact Hlev
    iexact Hat
  iintro ⟨HO, Hat, -, Hpay⟩
  ihave Hp := (Entails.of_eq (rest_bar I c)) $$ Hpay
  icases Hp with ⟨HL, HR⟩
  iapply Hk
  isplitl [HL]; · iexact HL
  isplitl [HR]; · iexact HR
  isplitl [Hat]; · iexact Hat
  iexists _; iexact HO

end Cert.Talk
-- ==== Proof.Places.lean ====
/-
The places of the protocol as sets of elements: the three buffers split into them and joined again, what a landing leaves, what a
store leaves.
-/
module

public import proofs.«01_k».proof.Proof.Protocol

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Dev nD → Inp F)

/-! ## The places as sets -/

theorem setX (s : Fin 4) (b : Fin 2) : (mX s b).view.set = (rectX s b).set :=
  (View.set_reshape _ _).trans (View.set_slice_whole _ _)
theorem setP (i : Fin 3) (b : Fin 2) : (mP i b).view.set = (rectP i b).set :=
  (View.set_reshape _ _).trans (View.set_slice_whole _ _)
theorem setR (i : Fin 3) (b : Fin 2) : (mR i b).view.set = (rectP i b).set :=
  (View.set_reshape _ _).trans (View.set_slice_whole _ _)

theorem accX (s : Fin 4) (b : Fin 2) : (xb.access (rectX s b)).set = (mX s b).view.set := (View.set_reshape _ _).symm
theorem accP (i : Fin 3) (b : Fin 2) : (pb.access (rectP i b)).set = (mP i b).view.set := (View.set_reshape _ _).symm
theorem accP_on (i : Fin 3) (b : Fin 2) : (pb.access (rectP i b)).setOn Finset.univ = (mP i b).view.set := accP i b
theorem accR (i : Fin 3) (b : Fin 2) : (rb.access (rectP i b)).set = (mR i b).view.set := (View.set_reshape _ _).symm

theorem mem_rectX (s : Fin 4) (b : Fin 2) (i : S4x256x512.Idx) :
    i ∈ (rectX s b).set ↔ (i 0).val = s.val ∧ (i 1).val / 128 = b.val := by
  have h1 : (i 1).val < 256 := (i 1).isLt
  have h2 : (i 2).val < 512 := (i 2).isLt
  rw [Rect.mem_set_unit]
  constructor
  · intro h
    have a := h 0; have d := h 1
    change s.val ≤ (i 0).val ∧ (i 0).val < s.val + 1 at a
    change 128 * b.val ≤ (i 1).val ∧ (i 1).val < 128 * b.val + 128 at d
    omega
  · rintro ⟨a, d⟩ x
    fin_cases x
    · show s.val ≤ (i 0).val ∧ (i 0).val < s.val + 1
      omega
    · show 128 * b.val ≤ (i 1).val ∧ (i 1).val < 128 * b.val + 128
      omega
    · show 0 ≤ (i 2).val ∧ (i 2).val < 0 + 512
      omega

theorem mem_rectP (j : Fin 3) (b : Fin 2) (i : S3x2x128x512.Idx) :
    i ∈ (rectP j b).set ↔ (i 0).val = j.val ∧ (i 1).val = b.val := by
  have h2 : (i 2).val < 128 := (i 2).isLt
  have h3 : (i 3).val < 512 := (i 3).isLt
  rw [Rect.mem_set_unit]
  constructor
  · intro h
    have a := h 0; have d := h 1
    change j.val ≤ (i 0).val ∧ (i 0).val < j.val + 1 at a
    change b.val ≤ (i 1).val ∧ (i 1).val < b.val + 1 at d
    omega
  · rintro ⟨a, d⟩ x
    fin_cases x
    · show j.val ≤ (i 0).val ∧ (i 0).val < j.val + 1
      omega
    · show b.val ≤ (i 1).val ∧ (i 1).val < b.val + 1
      omega
    · show 0 ≤ (i 2).val ∧ (i 2).val < 0 + 128
      omega
    · show 0 ≤ (i 3).val ∧ (i 3).val < 0 + 512
      omega

/-- The places as families of sets of elements of the buffers. -/
abbrev kX (p : Fin 4 × Fin 2) : Finset S4x256x512.Idx := (mX p.1 p.2).view.set
abbrev kP (p : Fin 3 × Fin 2) : Finset S3x2x128x512.Idx := (mP p.1 p.2).view.set
abbrev kR (p : Fin 3 × Fin 2) : Finset S3x2x128x512.Idx := (mR p.1 p.2).view.set

theorem kR_eq : kR = kP := funext fun p => (setR _ _).trans (setP _ _).symm

theorem disjX (p p' : Fin 4 × Fin 2) (h : p ≠ p') : Disjoint (mX p.1 p.2).view.set (mX p'.1 p'.2).view.set := by
  rw [setX, setX]
  refine Finset.disjoint_left.mpr fun i hi hi' => h ?_
  have a := (mem_rectX _ _ i).mp hi; have a' := (mem_rectX _ _ i).mp hi'
  exact Prod.ext (Fin.ext (a.1.symm.trans a'.1)) (Fin.ext (a.2.symm.trans a'.2))
theorem disjP (p p' : Fin 3 × Fin 2) (h : p ≠ p') : Disjoint (mP p.1 p.2).view.set (mP p'.1 p'.2).view.set := by
  rw [setP, setP]
  refine Finset.disjoint_left.mpr fun i hi hi' => h ?_
  have a := (mem_rectP _ _ i).mp hi; have a' := (mem_rectP _ _ i).mp hi'
  exact Prod.ext (Fin.ext (a.1.symm.trans a'.1)) (Fin.ext (a.2.symm.trans a'.2))

theorem unionX : Finset.univ.biUnion kX = Finset.univ := by
  refine Finset.eq_univ_iff_forall.mpr fun i => Finset.mem_biUnion.mpr ?_
  have h1 : ((i : S4x256x512.Idx) 1).val < 256 := ((i : S4x256x512.Idx) 1).isLt
  refine ⟨((i : S4x256x512.Idx) 0, ⟨((i : S4x256x512.Idx) 1).val / 128, by omega⟩), Finset.mem_univ _, ?_⟩
  exact (Finset.ext_iff.mp (setX _ _) i).mpr ((mem_rectX _ _ i).mpr ⟨rfl, rfl⟩)
theorem unionP : Finset.univ.biUnion kP = Finset.univ := by
  refine Finset.eq_univ_iff_forall.mpr fun i => Finset.mem_biUnion.mpr ?_
  refine ⟨((i : S3x2x128x512.Idx) 0, (i : S3x2x128x512.Idx) 1), Finset.mem_univ _, ?_⟩
  exact (Finset.ext_iff.mp (setP _ _) i).mpr ((mem_rectP _ _ i).mpr ⟨rfl, rfl⟩)

/-- The activations' buffer is its eight half slots. -/
theorem splitX (c : Dev nD) (f : BufX (F := F)) :
    (((c : Thread nD τ).loc cc0_scratch0) ↦{fullShare} f : sProp 𝕄)
      = iprop(ptX c 0 0 fullShare f ∗ ptX c 0 1 fullShare f ∗ ptX c 1 0 fullShare f ∗ ptX c 1 1 fullShare f
        ∗ ptX c 2 0 fullShare f ∗ ptX c 2 1 fullShare f ∗ ptX c 3 0 fullShare f ∗ ptX c 3 1 fullShare f) := by
  have h := pointsTo_biUnion (ℓ := (c : Thread nD τ).loc cc0_scratch0) (Ix := Unit) (Val := Elt F) (Name := ℕ) (U := UU) (Lvl := ℕ) (q := fullShare) (f := f)
    (Finset.univ : Finset (Fin 4 × Fin 2)) kX (fun p _ p' _ hp => disjX p p' hp)
  rw [unionX] at h
  refine h.trans ?_
  rw [bigSep_univ_eq_bigSepL [((0 : Fin 4), (0 : Fin 2)), (0, 1), (1, 0), (1, 1), (2, 0), (2, 1), (3, 0), (3, 1)] (by decide) (by decide)]
  rfl

/-- The outgoing parts' buffer is its six parts. -/
theorem splitP (c : Dev nD) (f : BufP (F := F)) :
    (((c : Thread nD τ).loc cc0_scratch1) ↦{fullShare} f : sProp 𝕄)
      = iprop(ptP c 0 0 f ∗ ptP c 0 1 f ∗ ptP c 1 0 f ∗ ptP c 1 1 f ∗ ptP c 2 0 f ∗ ptP c 2 1 f) := by
  have h := pointsTo_biUnion (ℓ := (c : Thread nD τ).loc cc0_scratch1) (Ix := Unit) (Val := Elt F) (Name := ℕ) (U := UU) (Lvl := ℕ) (q := fullShare) (f := f)
    (Finset.univ : Finset (Fin 3 × Fin 2)) kP (fun p _ p' _ hp => disjP p p' hp)
  rw [unionP] at h
  refine h.trans ?_
  rw [bigSep_univ_eq_bigSepL [((0 : Fin 3), (0 : Fin 2)), (0, 1), (1, 0), (1, 1), (2, 0), (2, 1)] (by decide) (by decide)]
  rfl

/-- The incoming parts' buffer is its six parts. -/
theorem splitR (c : Dev nD) (f : BufR (F := F)) :
    (((c : Thread nD τ).loc cc0_scratch2) ↦{fullShare} f : sProp 𝕄)
      = iprop(ptR c 0 0 f ∗ ptR c 0 1 f ∗ ptR c 1 0 f ∗ ptR c 1 1 f ∗ ptR c 2 0 f ∗ ptR c 2 1 f) := by
  have h := pointsTo_biUnion (ℓ := (c : Thread nD τ).loc cc0_scratch2) (Ix := Unit) (Val := Elt F) (Name := ℕ) (U := UU) (Lvl := ℕ) (q := fullShare) (f := f)
    (Finset.univ : Finset (Fin 3 × Fin 2)) kR
    (fun p _ p' _ hp => by rw [kR_eq]; exact disjP p p' hp)
  rw [show Finset.univ.biUnion kR = Finset.univ from by rw [kR_eq, unionP]] at h
  refine h.trans ?_
  rw [bigSep_univ_eq_bigSepL [((0 : Fin 3), (0 : Fin 2)), (0, 1), (1, 0), (1, 1), (2, 0), (2, 1)] (by decide) (by decide)]
  rfl

/-! ## Slot 0 -/

theorem inbX0 (a : Fin 3) : (![0, 0, 0] : Fin 3 → ℕ) a + S1x256x512.size a ≤ S4x256x512.size a := by revert a; decide
abbrev rectX0 : Rect S4x256x512 := Rect.unit (s := S4x256x512) ![0, 0, 0] S1x256x512.size inbX0

theorem slot0_set : (xb.access rectX0).set = (mX 0 0).view.set ∪ (mX 0 1).view.set := by
  rw [setX, setX]
  refine Eq.trans (View.set_slice_whole _ _) (Finset.ext fun i => ?_)
  have h1 : ((i : S4x256x512.Idx) 1).val < 256 := ((i : S4x256x512.Idx) 1).isLt
  have h2 : ((i : S4x256x512.Idx) 2).val < 512 := ((i : S4x256x512.Idx) 2).isLt
  rw [Finset.mem_union, mem_rectX, mem_rectX]
  refine Rect.mem_set_unit.trans ?_
  constructor
  · intro h
    have a := h 0
    change 0 ≤ ((i : S4x256x512.Idx) 0).val ∧ ((i : S4x256x512.Idx) 0).val < 0 + 1 at a
    show (((i : S4x256x512.Idx) 0).val = 0 ∧ ((i : S4x256x512.Idx) 1).val / 128 = 0) ∨ (((i : S4x256x512.Idx) 0).val = 0 ∧ ((i : S4x256x512.Idx) 1).val / 128 = 1)
    omega
  · intro h x
    change (((i : S4x256x512.Idx) 0).val = 0 ∧ ((i : S4x256x512.Idx) 1).val / 128 = 0) ∨ (((i : S4x256x512.Idx) 0).val = 0 ∧ ((i : S4x256x512.Idx) 1).val / 128 = 1) at h
    fin_cases x
    · show 0 ≤ ((i : S4x256x512.Idx) 0).val ∧ ((i : S4x256x512.Idx) 0).val < 0 + 1
      omega
    · show 0 ≤ ((i : S4x256x512.Idx) 1).val ∧ ((i : S4x256x512.Idx) 1).val < 0 + 256
      omega
    · show 0 ≤ ((i : S4x256x512.Idx) 2).val ∧ ((i : S4x256x512.Idx) 2).val < 0 + 512
      omega

/-- Slot 0 is its two halves. -/
theorem slot0_split (c : Dev nD) (f : BufX (F := F)) :
    (((c : Thread nD τ).loc cc0_scratch0) ↦[(xb.access rectX0).set]{fullShare} f : sProp 𝕄) ⊣⊢ iprop(ptX c 0 0 fullShare f ∗ ptX c 0 1 fullShare f) := by
  rw [slot0_set]
  exact pointsTo_union (disjX (0, 0) (0, 1) (by decide))

/-- What the store of the own activations leaves in slot 0. -/
theorem slot0_store (c : Dev nD) (f : BufX (F := F)) :
    (((c : Thread nD τ).loc cc0_scratch0) ↦[(xb.access rectX0).set]{fullShare} (xb.access rectX0).write (Elt F) f (k0_pay1 (I c).x) Finset.univ : sProp 𝕄)
      = (((c : Thread nD τ).loc cc0_scratch0) ↦[(xb.access rectX0).set]{fullShare} xfin I c) := by
  refine pointsTo_congr fun i hi => ?_
  obtain ⟨x, -, rfl⟩ := Finset.mem_map.mp hi
  rw [View.write_emb_of_mem _ _ (Finset.mem_univ x)]
  show k0_pay1 (I c).x x = xfin I c (rectX0.emb x)
  have h0 : rectX0.emb x 0 = (0 : Fin 4) := Fin.ext (by
    show 0 + 1 * (x 0).val = 0
    have : (x 0).val < 1 := (x 0).isLt
    omega)
  unfold xfin
  rw [h0]
  refine congrArg (k0_pay1 (I c).x) (funext fun a => Fin.ext ?_)
  fin_cases a
  · have : (x 0).val < 1 := (x 0).isLt
    show (x 0).val = 0
    omega
  · show (x 1).val = 0 + 1 * (x 1).val
    omega
  · show (x 2).val = 0 + 1 * (x 2).val
    omega

/-! ## Landings -/

/-- Half `b` of device `c`'s own activations, landed in slot `s` of device `n`. -/
theorem landX (n c : Dev nD) (s : Fin 4) (b : Fin 2) (h : xsrc n s = c) (fd : BufX (F := F)) :
    ((mX s b).view.loc (n : Thread nD τ) ↦[(mX s b).view.set]{fullShare}
        ((mX s b).view.write (Elt F) fd ((mX 0 b).view.read (Elt F) (xfin I c)) Finset.univ) : sProp 𝕄)
      = ptX n s b fullShare (xfin I n) := by
  refine pointsTo_congr fun i hi => ?_
  obtain ⟨x, -, rfl⟩ := Finset.mem_map.mp hi
  rw [View.write_emb_of_mem _ _ (Finset.mem_univ x)]
  generalize hy : Shape.reshapeEquiv (s := S1x128x512) (s' := S128x512) (by decide) x = y
  show xfin I c ((rectX 0 b).emb (Shape.reshapeEquiv (s := S1x128x512) (s' := S128x512) (by decide) x))
    = xfin I n ((rectX s b).emb (Shape.reshapeEquiv (s := S1x128x512) (s' := S128x512) (by decide) x))
  rw [hy]
  have hy0 : (y 0).val < 1 := (y 0).isLt
  have h0 : (rectX 0 b).emb y 0 = (0 : Fin 4) := Fin.ext (by show 0 + 1 * (y 0).val = 0; omega)
  have h1 : (rectX s b).emb y 0 = s := Fin.ext (by show s.val + 1 * (y 0).val = s.val; omega)
  unfold xfin
  rw [h0, h1, h]
  rfl

/-- Part `(i, b)` of device `c`, landed in slot `j` of device `n`. -/
theorem landR (n c : Dev nD) (i j : Fin 3) (b : Fin 2) (h : rsrc n j = c) (hp : rpart j = i) (fd : BufR (F := F)) :
    ((mR j b).view.loc (n : Thread nD τ) ↦[(mR j b).view.set]{fullShare}
        ((mR j b).view.write (Elt F) fd ((mP i b).view.read (Elt F) (pfin I c)) Finset.univ) : sProp 𝕄)
      = ptR n j b (rfin I n) := by
  refine pointsTo_congr fun i' hi => ?_
  obtain ⟨x, -, rfl⟩ := Finset.mem_map.mp hi
  rw [View.write_emb_of_mem _ _ (Finset.mem_univ x)]
  generalize hy : Shape.reshapeEquiv (s := S1x1x128x512) (s' := S128x512) (by decide) x = y
  show pfin I c ((rectP i b).emb (Shape.reshapeEquiv (s := S1x1x128x512) (s' := S128x512) (by decide) x))
    = rfin I n ((rectP j b).emb (Shape.reshapeEquiv (s := S1x1x128x512) (s' := S128x512) (by decide) x))
  rw [hy]
  have hy0 : (y 0).val < 1 := (y 0).isLt
  have h1 : (rectP j b).emb y 0 = j := Fin.ext (by show j.val + 1 * (y 0).val = j.val; omega)
  unfold rfin
  rw [h1, h]
  refine congrArg (pfin I c) (funext fun a => Fin.ext ?_)
  fin_cases a
  · show i.val + 1 * (y 0).val = (rpart j).val
    rw [hp]; omega
  · rfl
  · rfl
  · rfl

/-- What the store of part `(i, b)` leaves. -/
theorem storeP (c : Dev nD) (i : Fin 3) (b : Fin 2) (s : Fin 4) (hs : s = Fin.succ i) (f : BufP (F := F)) :
    (((c : Thread nD τ).loc cc0_scratch1) ↦[(mP i b).view.set]{fullShare}
        (pb.access (rectP i b)).write (Elt F) f (part (I c) b (ldX I c s b)) Finset.univ : sProp 𝕄)
      = ptP c i b (pfin I c) := by
  subst hs
  refine pointsTo_congr fun i' hi => ?_
  rw [← accP] at hi
  obtain ⟨y, -, rfl⟩ := Finset.mem_map.mp hi
  rw [View.write_emb_of_mem _ _ (Finset.mem_univ y)]
  show part (I c) b (ldX I c (Fin.succ i) b) y = pfin I c ((rectP i b).emb y)
  have hy0 : (y 0).val < 1 := (y 0).isLt
  have hy1 : (y 1).val < 1 := (y 1).isLt
  have h0 : (rectP i b).emb y 0 = i := Fin.ext (by show i.val + 1 * (y 0).val = i.val; omega)
  have h1 : (rectP i b).emb y 1 = b := Fin.ext (by show b.val + 1 * (y 1).val = b.val; omega)
  unfold pfin
  rw [h0, h1]
  refine congrArg (part (I c) b (ldX I c (Fin.succ i) b)) (funext fun a => Fin.ext ?_)
  fin_cases a
  · show (y 0).val = 0
    omega
  · show (y 1).val = 0
    omega
  · show (y 2).val = 0 + 1 * (y 2).val
    omega
  · show (y 3).val = 0 + 1 * (y 3).val
    omega

/-! ## Shares -/

/-- The own half, in the share kept and the three sent with. -/
theorem share4 (c : Dev nD) (b : Fin 2) (f : BufX (F := F)) :
    (ptX c 0 b fullShare f : sProp 𝕄) ⊣⊢ iprop((ptX c 0 b (shr 0) f ∗ ptX c 0 b (shr 1) f) ∗ (ptX c 0 b (shr 2) f ∗ ptX c 0 b (shr 3) f)) :=
  (pointsTo_share (PosShare.mem_left_op_right _)).trans
    (sep_congr (pointsTo_share (PosShare.mem_left_op_right _)) (pointsTo_share (PosShare.mem_left_op_right _)))

/-! ## The result -/

/-- An incoming part, as loaded. -/
abbrev ldR (c : Dev nD) (j : Fin 3) (b : Fin 2) : Vec F S1x1x128x512 .bf16 :=
  (rb.access (rectP j b)).read (Elt F) (rfin I c)

/-- The rows of the result of the first half. -/
def out0 (c : Dev nD) : Vec F S128x512 .f32 :=
  k0_pay25 (k0_pay23 (k0_pay21 (k0_pay8 (k0_pay2 (I c).wq) (k0_pay3 (I c).wo) (keys (I c) 0) (vals (I c) 0) (ldX I c 0 0)) (ldR I c 0 0)) (ldR I c 1 0)) (ldR I c 2 0)
/-- The rows of the result of the second half. -/
def out1 (c : Dev nD) : Vec F S128x512 .f32 :=
  k0_pay26 (k0_pay24 (k0_pay22 (k0_pay20 (k0_pay19 (k0_pay2 (I c).wq) (k0_pay3 (I c).wo) (keys (I c) 1) (vals (I c) 1) (ldX I c 0 1))) (ldR I c 0 1)) (ldR I c 1 1)) (ldR I c 2 1)

set_option backward.proofsInPublic true in
/-- The block of the result device `c` leaves. -/
def outv (c : Dev nD) : Vec F S256x512 .f32 := fun i =>
  if h : (i 0).val < 128 then out0 I c (fun a => match a with | 0 => (⟨(i 0).val, h⟩ : Fin 128) | 1 => i 1)
  else out1 I c (fun a => match a with | 0 => (⟨(i 0).val - 128, by have : (i 0).val < 256 := (i 0).isLt; omega⟩ : Fin 128) | 1 => i 1)

end Cert.Talk
-- ==== Proof.Names.lean ====
/-
The names the kernel's text has for the places, semaphores and devices of the protocol, and the loads and stores at them.
-/
module

public import proofs.«01_k».proof.Proof.Steps
public import proofs.«01_k».proof.Proof.Places

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Places -/

theorem mX_00 : (xb.slice (Rect.unit (s := S4x256x512) ![0, 0, 0] S1x128x512.size inb_S4x256x512_S1x128x512_0_0_0) (fun _ => rfl)).squeeze S128x512 squeezes_S1x128x512_S128x512
    = mX 0 0 := rfl
theorem mX_01 : (xb.slice (Rect.unit (s := S4x256x512) ![0, 128, 0] S1x128x512.size inb_S4x256x512_S1x128x512_0_128_0) (fun _ => rfl)).squeeze S128x512 squeezes_S1x128x512_S128x512
    = mX 0 1 := rfl
theorem mX_10 : (xb.slice (Rect.unit (s := S4x256x512) ![1, 0, 0] S1x128x512.size inb_S4x256x512_S1x128x512_1_0_0) (fun _ => rfl)).squeeze S128x512 squeezes_S1x128x512_S128x512
    = mX 1 0 := rfl
theorem mX_11 : (xb.slice (Rect.unit (s := S4x256x512) ![1, 128, 0] S1x128x512.size inb_S4x256x512_S1x128x512_1_128_0) (fun _ => rfl)).squeeze S128x512 squeezes_S1x128x512_S128x512
    = mX 1 1 := rfl
theorem mX_20 : (xb.slice (Rect.unit (s := S4x256x512) ![2, 0, 0] S1x128x512.size inb_S4x256x512_S1x128x512_2_0_0) (fun _ => rfl)).squeeze S128x512 squeezes_S1x128x512_S128x512
    = mX 2 0 := rfl
theorem mX_21 : (xb.slice (Rect.unit (s := S4x256x512) ![2, 128, 0] S1x128x512.size inb_S4x256x512_S1x128x512_2_128_0) (fun _ => rfl)).squeeze S128x512 squeezes_S1x128x512_S128x512
    = mX 2 1 := rfl
theorem mX_30 : (xb.slice (Rect.unit (s := S4x256x512) ![3, 0, 0] S1x128x512.size inb_S4x256x512_S1x128x512_3_0_0) (fun _ => rfl)).squeeze S128x512 squeezes_S1x128x512_S128x512
    = mX 3 0 := rfl
theorem mX_31 : (xb.slice (Rect.unit (s := S4x256x512) ![3, 128, 0] S1x128x512.size inb_S4x256x512_S1x128x512_3_128_0) (fun _ => rfl)).squeeze S128x512 squeezes_S1x128x512_S128x512
    = mX 3 1 := rfl
theorem mP_00 : (pb.slice (Rect.unit (s := S3x2x128x512) ![0, 0, 0, 0] S1x1x128x512.size inb_S3x2x128x512_S1x1x128x512_0_0_0_0) (fun _ => rfl)).squeeze S128x512 squeezes_S1x1x128x512_S128x512
    = mP 0 0 := rfl
theorem mP_01 : (pb.slice (Rect.unit (s := S3x2x128x512) ![0, 1, 0, 0] S1x1x128x512.size inb_S3x2x128x512_S1x1x128x512_0_1_0_0) (fun _ => rfl)).squeeze S128x512 squeezes_S1x1x128x512_S128x512
    = mP 0 1 := rfl
theorem mP_10 : (pb.slice (Rect.unit (s := S3x2x128x512) ![1, 0, 0, 0] S1x1x128x512.size inb_S3x2x128x512_S1x1x128x512_1_0_0_0) (fun _ => rfl)).squeeze S128x512 squeezes_S1x1x128x512_S128x512
    = mP 1 0 := rfl
theorem mP_11 : (pb.slice (Rect.unit (s := S3x2x128x512) ![1, 1, 0, 0] S1x1x128x512.size inb_S3x2x128x512_S1x1x128x512_1_1_0_0) (fun _ => rfl)).squeeze S128x512 squeezes_S1x1x128x512_S128x512
    = mP 1 1 := rfl
theorem mP_20 : (pb.slice (Rect.unit (s := S3x2x128x512) ![2, 0, 0, 0] S1x1x128x512.size inb_S3x2x128x512_S1x1x128x512_2_0_0_0) (fun _ => rfl)).squeeze S128x512 squeezes_S1x1x128x512_S128x512
    = mP 2 0 := rfl
theorem mP_21 : (pb.slice (Rect.unit (s := S3x2x128x512) ![2, 1, 0, 0] S1x1x128x512.size inb_S3x2x128x512_S1x1x128x512_2_1_0_0) (fun _ => rfl)).squeeze S128x512 squeezes_S1x1x128x512_S128x512
    = mP 2 1 := rfl
theorem mR_00 : (rb.slice (Rect.unit (s := S3x2x128x512) ![0, 0, 0, 0] S1x1x128x512.size inb_S3x2x128x512_S1x1x128x512_0_0_0_0) (fun _ => rfl)).squeeze S128x512 squeezes_S1x1x128x512_S128x512
    = mR 0 0 := rfl
theorem mR_01 : (rb.slice (Rect.unit (s := S3x2x128x512) ![0, 1, 0, 0] S1x1x128x512.size inb_S3x2x128x512_S1x1x128x512_0_1_0_0) (fun _ => rfl)).squeeze S128x512 squeezes_S1x1x128x512_S128x512
    = mR 0 1 := rfl
theorem mR_10 : (rb.slice (Rect.unit (s := S3x2x128x512) ![1, 0, 0, 0] S1x1x128x512.size inb_S3x2x128x512_S1x1x128x512_1_0_0_0) (fun _ => rfl)).squeeze S128x512 squeezes_S1x1x128x512_S128x512
    = mR 1 0 := rfl
theorem mR_11 : (rb.slice (Rect.unit (s := S3x2x128x512) ![1, 1, 0, 0] S1x1x128x512.size inb_S3x2x128x512_S1x1x128x512_1_1_0_0) (fun _ => rfl)).squeeze S128x512 squeezes_S1x1x128x512_S128x512
    = mR 1 1 := rfl
theorem mR_20 : (rb.slice (Rect.unit (s := S3x2x128x512) ![2, 0, 0, 0] S1x1x128x512.size inb_S3x2x128x512_S1x1x128x512_2_0_0_0) (fun _ => rfl)).squeeze S128x512 squeezes_S1x1x128x512_S128x512
    = mR 2 0 := rfl
theorem mR_21 : (rb.slice (Rect.unit (s := S3x2x128x512) ![2, 1, 0, 0] S1x1x128x512.size inb_S3x2x128x512_S1x1x128x512_2_1_0_0) (fun _ => rfl)).squeeze S128x512 squeezes_S1x1x128x512_S128x512
    = mR 2 1 := rfl

/-! ## Semaphores -/

theorem ss_0 : ((cc0_scratch3.slice (Rect.unit (s := S3x2) ![0, 0] S1x1.size inb_S3x2_S1x1_0_0)).squeeze S_ squeezes_S1x1_S_).sem = sendS 0 := by decide
theorem sr_0 : ((cc0_scratch4.slice (Rect.unit (s := S4x2) ![1, 0] S1x1.size inb_S4x2_S1x1_1_0)).squeeze S_ squeezes_S1x1_S_).sem = recvS 0 := by decide
theorem ss_1 : ((cc0_scratch3.slice (Rect.unit (s := S3x2) ![1, 0] S1x1.size inb_S3x2_S1x1_1_0)).squeeze S_ squeezes_S1x1_S_).sem = sendS 1 := by decide
theorem sr_1 : ((cc0_scratch4.slice (Rect.unit (s := S4x2) ![2, 0] S1x1.size inb_S4x2_S1x1_2_0)).squeeze S_ squeezes_S1x1_S_).sem = recvS 1 := by decide
theorem ss_2 : ((cc0_scratch3.slice (Rect.unit (s := S3x2) ![0, 1] S1x1.size inb_S3x2_S1x1_0_1)).squeeze S_ squeezes_S1x1_S_).sem = sendS 2 := by decide
theorem sr_2 : ((cc0_scratch4.slice (Rect.unit (s := S4x2) ![1, 1] S1x1.size inb_S4x2_S1x1_1_1)).squeeze S_ squeezes_S1x1_S_).sem = recvS 2 := by decide
theorem ss_3 : ((cc0_scratch3.slice (Rect.unit (s := S3x2) ![1, 1] S1x1.size inb_S3x2_S1x1_1_1)).squeeze S_ squeezes_S1x1_S_).sem = sendS 3 := by decide
theorem sr_3 : ((cc0_scratch4.slice (Rect.unit (s := S4x2) ![2, 1] S1x1.size inb_S4x2_S1x1_2_1)).squeeze S_ squeezes_S1x1_S_).sem = recvS 3 := by decide
theorem ss_4 : ((cc0_scratch3.slice (Rect.unit (s := S3x2) ![2, 0] S1x1.size inb_S3x2_S1x1_2_0)).squeeze S_ squeezes_S1x1_S_).sem = sendS 4 := by decide
theorem sr_4 : ((cc0_scratch4.slice (Rect.unit (s := S4x2) ![3, 0] S1x1.size inb_S4x2_S1x1_3_0)).squeeze S_ squeezes_S1x1_S_).sem = recvS 4 := by decide
theorem ss_5 : ((cc0_scratch3.slice (Rect.unit (s := S3x2) ![2, 1] S1x1.size inb_S3x2_S1x1_2_1)).squeeze S_ squeezes_S1x1_S_).sem = sendS 5 := by decide
theorem sr_5 : ((cc0_scratch4.slice (Rect.unit (s := S4x2) ![3, 1] S1x1.size inb_S4x2_S1x1_3_1)).squeeze S_ squeezes_S1x1_S_).sem = recvS 5 := by decide
theorem ss_6 : ((cc0_scratch5.slice (Rect.unit (s := S3x2) ![0, 0] S1x1.size inb_S3x2_S1x1_0_0)).squeeze S_ squeezes_S1x1_S_).sem = sendS 6 := by decide
theorem sr_6 : ((cc0_scratch6.slice (Rect.unit (s := S3x2) ![1, 0] S1x1.size inb_S3x2_S1x1_1_0)).squeeze S_ squeezes_S1x1_S_).sem = recvS 6 := by decide
theorem ss_7 : ((cc0_scratch5.slice (Rect.unit (s := S3x2) ![0, 1] S1x1.size inb_S3x2_S1x1_0_1)).squeeze S_ squeezes_S1x1_S_).sem = sendS 7 := by decide
theorem sr_7 : ((cc0_scratch6.slice (Rect.unit (s := S3x2) ![1, 1] S1x1.size inb_S3x2_S1x1_1_1)).squeeze S_ squeezes_S1x1_S_).sem = recvS 7 := by decide
theorem ss_8 : ((cc0_scratch5.slice (Rect.unit (s := S3x2) ![1, 0] S1x1.size inb_S3x2_S1x1_1_0)).squeeze S_ squeezes_S1x1_S_).sem = sendS 8 := by decide
theorem sr_8 : ((cc0_scratch6.slice (Rect.unit (s := S3x2) ![0, 0] S1x1.size inb_S3x2_S1x1_0_0)).squeeze S_ squeezes_S1x1_S_).sem = recvS 8 := by decide
theorem ss_9 : ((cc0_scratch5.slice (Rect.unit (s := S3x2) ![2, 0] S1x1.size inb_S3x2_S1x1_2_0)).squeeze S_ squeezes_S1x1_S_).sem = sendS 9 := by decide
theorem sr_9 : ((cc0_scratch6.slice (Rect.unit (s := S3x2) ![2, 0] S1x1.size inb_S3x2_S1x1_2_0)).squeeze S_ squeezes_S1x1_S_).sem = recvS 9 := by decide
theorem ss_10 : ((cc0_scratch5.slice (Rect.unit (s := S3x2) ![2, 1] S1x1.size inb_S3x2_S1x1_2_1)).squeeze S_ squeezes_S1x1_S_).sem = sendS 10 := by decide
theorem sr_10 : ((cc0_scratch6.slice (Rect.unit (s := S3x2) ![2, 1] S1x1.size inb_S3x2_S1x1_2_1)).squeeze S_ squeezes_S1x1_S_).sem = recvS 10 := by decide
theorem ss_11 : ((cc0_scratch5.slice (Rect.unit (s := S3x2) ![1, 1] S1x1.size inb_S3x2_S1x1_1_1)).squeeze S_ squeezes_S1x1_S_).sem = sendS 11 := by decide
theorem sr_11 : ((cc0_scratch6.slice (Rect.unit (s := S3x2) ![0, 1] S1x1.size inb_S3x2_S1x1_0_1)).squeeze S_ squeezes_S1x1_S_).sem = recvS 11 := by decide

/-! ## Devices -/

theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) : (⟨k0_dev3 c, k0_dev3_lt c⟩ : Dev nD) = rgt c := Fin.ext (k0_dev3_eq c)
theorem dev4_eq (c : Dev nD) : (⟨k0_dev4 c, k0_dev4_lt c⟩ : Dev nD) = lft c := Fin.ext (k0_dev4_eq c)
theorem dev5_eq (c : Dev nD) : (⟨k0_dev5 c, k0_dev5_lt c⟩ : Dev nD) = rgt c := Fin.ext (k0_dev5_eq c)
theorem dev6_eq (c : Dev nD) : (⟨k0_dev6 c, k0_dev6_lt c⟩ : Dev nD) = lft c := Fin.ext (k0_dev6_eq c)
theorem dev7_eq (c : Dev nD) : (⟨k0_dev7 c, k0_dev7_lt c⟩ : Dev nD) = dia c := Fin.ext (k0_dev7_eq c)
theorem dev8_eq (c : Dev nD) : (⟨k0_dev8 c, k0_dev8_lt c⟩ : Dev nD) = dia c := Fin.ext (k0_dev8_eq c)
theorem dev9_eq (c : Dev nD) : (⟨k0_dev9 c, k0_dev9_lt c⟩ : Dev nD) = lft c := Fin.ext (k0_dev9_eq c)
theorem dev10_eq (c : Dev nD) : (⟨k0_dev10 c, k0_dev10_lt c⟩ : Dev nD) = lft c := Fin.ext (k0_dev10_eq c)
theorem dev11_eq (c : Dev nD) : (⟨k0_dev11 c, k0_dev11_lt c⟩ : Dev nD) = rgt c := Fin.ext (k0_dev11_eq c)
theorem dev12_eq (c : Dev nD) : (⟨k0_dev12 c, k0_dev12_lt c⟩ : Dev nD) = dia c := Fin.ext (k0_dev12_eq c)
theorem dev13_eq (c : Dev nD) : (⟨k0_dev13 c, k0_dev13_lt c⟩ : Dev nD) = dia c := Fin.ext (k0_dev13_eq c)
theorem dev14_eq (c : Dev nD) : (⟨k0_dev14 c, k0_dev14_lt c⟩ : Dev nD) = rgt c := Fin.ext (k0_dev14_eq c)

/-! ## Loads and stores -/

variable {α : Type} {Q : α → sProp (MT nD τ sig Unit (Elt F) ℕ UU ℕ)}

theorem load_X (c : Dev nD) (r : Rect S4x256x512) (s : Fin 4) (b : Fin 2) (q : PosShare TreeShare) (f : BufX (F := F)) {r : Rect S4x256x512} (hr : r = rectX s b)
    {hl : xb.view.LoadsAt r} {k : (r.shape.Idx → Elt F .bf16) → Prog (TpuEff nD τ sig (Elt F) Λ₀ .tc) α} :
    (ptX c s b q f : sProp 𝕄)
      ⊢ iprop((ptX c s b q f -∗ wp frame (wpE (defs₀ (F := F)) 𝒱₀ c none) Set.univ (k ((xb.access r).read (Elt F) f)) Q)
        -∗ wp frame (wpE (defs₀ (F := F)) 𝒱₀ c none) Set.univ (.op (.load xb r.toLoadRect hl) k) Q) := by
  subst hr
  have h := wp_load_rect (Γ := PendingWaitsCtx.empty) (defs := defs₀ (F := F)) (Name := ℕ) (U := UU) (Lvl := ℕ) 𝒱₀ (c : Thread nD τ) none (Q := Q) Set.univ (m := xb) (r := rectX s b)
    (hl := hl) (k := k) (q := q) (S := (mX s b).view.set) (f := f) (subset_of_eq (accX s b))
  exact h

theorem load_P (c : Dev nD) (r : Rect S3x2x128x512) (i : Fin 3) (b : Fin 2) (f : BufP (F := F)) {r : Rect S3x2x128x512} (hr : r = rectP i b)
    {hl : pb.view.LoadsAt r} {k : (r.shape.Idx → Elt F .bf16) → Prog (TpuEff nD τ sig (Elt F) Λ₀ .tc) α} :
    (ptP c i b f : sProp 𝕄)
      ⊢ iprop((ptP c i b f -∗ wp frame (wpE (defs₀ (F := F)) 𝒱₀ c none) Set.univ (k ((pb.access r).read (Elt F) f)) Q)
        -∗ wp frame (wpE (defs₀ (F := F)) 𝒱₀ c none) Set.univ (.op (.load pb r.toLoadRect hl) k) Q) := by
  subst hr
  have h := wp_load_rect (Γ := PendingWaitsCtx.empty) (defs := defs₀ (F := F)) (Name := ℕ) (U := UU) (Lvl := ℕ) 𝒱₀ (c : Thread nD τ) none (Q := Q) Set.univ (m := pb) (r := rectP i b)
    (hl := hl) (k := k) (q := fullShare) (S := (mP i b).view.set) (f := f) (subset_of_eq (accP i b))
  exact h

theorem load_R (c : Dev nD) (r : Rect S3x2x128x512) (i : Fin 3) (b : Fin 2) (f : BufR (F := F)) {r : Rect S3x2x128x512} (hr : r = rectP i b)
    {hl : rb.view.LoadsAt r} {k : (r.shape.Idx → Elt F .bf16) → Prog (TpuEff nD τ sig (Elt F) Λ₀ .tc) α} :
    (ptR c i b f : sProp 𝕄)
      ⊢ iprop((ptR c i b f -∗ wp frame (wpE (defs₀ (F := F)) 𝒱₀ c none) Set.univ (k ((rb.access r).read (Elt F) f)) Q)
        -∗ wp frame (wpE (defs₀ (F := F)) 𝒱₀ c none) Set.univ (.op (.load rb r.toLoadRect hl) k) Q) := by
  subst hr
  have h := wp_load_rect (Γ := PendingWaitsCtx.empty) (defs := defs₀ (F := F)) (Name := ℕ) (U := UU) (Lvl := ℕ) 𝒱₀ (c : Thread nD τ) none (Q := Q) Set.univ (m := rb) (r := rectP i b)
    (hl := hl) (k := k) (q := fullShare) (S := (mR i b).view.set) (f := f) (subset_of_eq (accR i b))
  exact h

variable (I : Dev nD → Inp F)

/-- The store of part `(i, b)`. -/
theorem store_P (c : Dev nD) (r : Rect S3x2x128x512) (i : Fin 3) (b : Fin 2) (s : Fin 4) (hs : s = Fin.succ i) (f : BufP (F := F))
    (hr : r = rectP i b) {w : r.shape.Idx → Elt F .bf16} (hw : w = hr ▸ part (I c) b (ldX I c s b))
    {hx : (pb.access r).Stores Finset.univ} {hm : (Finset.univ : Finset r.shape.Idx) = Finset.univ ∨ ∀ a, r.stride a = 1}
    {k : PUnit → Prog (TpuEff nD τ sig (Elt F) Λ₀ .tc) α} :
    (ptP c i b f : sProp 𝕄)
      ⊢ iprop((ptP c i b (pfin I c) -∗ wp frame (wpE (defs₀ (F := F)) 𝒱₀ c none) Set.univ (k ⟨⟩) Q)
        -∗ wp frame (wpE (defs₀ (F := F)) 𝒱₀ c none) Set.univ (.op (.store pb r w Finset.univ hx hm) k) Q) := by
  subst hr; subst hw
  have h := wp_store (Γ := PendingWaitsCtx.empty) (defs := defs₀ (F := F)) (Name := ℕ) (U := UU) (Lvl := ℕ) 𝒱₀ (c : Thread nD τ) none (Q := Q) Set.univ (m := pb) (r := rectP i b)
    (w := part (I c) b (ldX I c s b)) (Mk := Finset.univ) (hx := hx) (hm := hm) (k := k) (S := (mP i b).view.set) (f := f) (subset_of_eq (accP_on i b))
  rwa [storeP I c i b s hs f] at h

/-! ## The windows' buffers -/

abbrev a0 : Memref sig .tc .vmem S256x512 .f32 := Memref.whole cc0_stg0_0
abbrev a1 : Memref sig .tc .vmem S512x512 .f32 := Memref.whole cc0_stg1_0
abbrev a2 : Memref sig .tc .vmem S512x512 .f32 := Memref.whole cc0_stg2_0
abbrev a3 : Memref sig .tc .vmem S16x128x64 .f32 := Memref.whole cc0_stg3_0
abbrev a4 : Memref sig .tc .vmem S16x128x64 .f32 := Memref.whole cc0_stg4_0
abbrev a5 : Memref sig .tc .vmem S256x512 .f32 := Memref.whole cc0_stg5_0

/-- The two products' right factors, as the body has them. -/
abbrev wqv (c : Dev nD) : FVec F S512x512 .bf16 := k0_pay2 (I c).wq
abbrev wov (c : Dev nD) : FVec F S8x64x512 .bf16 := k0_pay3 (I c).wo

abbrev BufO := (cc0_stg5_0 : Ref sig .tc).ty.Contents (Elt F)
abbrev ptO (c : Dev nD) (g : BufO (F := F)) : sProp 𝕄 := ((c : Thread nD τ).loc cc0_stg5_0) ↦{fullShare} g

/-- A load of a part of a buffer held as a whole. -/
theorem load_W (c : Dev nD) {s : Shape} {t : EltTy} (m : Memref sig .tc .vmem s t) (r : Rect s) (f : Buf (Elt F) (m.view.loc (c : Thread nD τ)))
    {hl : m.view.LoadsAt r.toLoadRect} {k : (r.shape.Idx → Elt F t) → Prog (TpuEff nD τ sig (Elt F) Λ₀ .tc) α} :
    (m.view.loc (c : Thread nD τ) ↦{fullShare} f : sProp 𝕄)
      ⊢ iprop(((m.view.loc (c : Thread nD τ) ↦{fullShare} f) -∗ wp frame (wpE (defs₀ (F := F)) 𝒱₀ c none) Set.univ (k ((m.access r).read (Elt F) f)) Q)
        -∗ wp frame (wpE (defs₀ (F := F)) 𝒱₀ c none) Set.univ (.op (.load m r.toLoadRect hl) k) Q) := by
  have h := wp_load_rect (Γ := PendingWaitsCtx.empty) (defs := defs₀ (F := F)) (Name := ℕ) (U := UU) (Lvl := ℕ) 𝒱₀ (c : Thread nD τ) none (Q := Q) Set.univ (m := m) (r := r)
    (hl := hl) (k := k) (q := fullShare) (S := Finset.univ) (f := f) (Finset.subset_univ _)
  exact h

/-- A store into a part of a buffer held as a whole. -/
theorem store_W (c : Dev nD) {s : Shape} {t : EltTy} (m : Memref sig .tc .vmem s t) (r : Rect s) (f : Buf (Elt F) (m.view.loc (c : Thread nD τ)))
    {w : r.shape.Idx → Elt F t} {hx : (m.access r).Stores Finset.univ} {hm : (Finset.univ : Finset r.shape.Idx) = Finset.univ ∨ ∀ a, r.stride a = 1}
    {k : PUnit → Prog (TpuEff nD τ sig (Elt F) Λ₀ .tc) α} :
    (m.view.loc (c : Thread nD τ) ↦{fullShare} f : sProp 𝕄)
      ⊢ iprop(((m.view.loc (c : Thread nD τ) ↦{fullShare} ((m.access r).write (Elt F) f w Finset.univ)) -∗ wp frame (wpE (defs₀ (F := F)) 𝒱₀ c none) Set.univ (k ⟨⟩) Q)
        -∗ wp frame (wpE (defs₀ (F := F)) 𝒱₀ c none) Set.univ (.op (.store m r w Finset.univ hx hm) k) Q) := by
  have h := wp_store (Γ := PendingWaitsCtx.empty) (defs := defs₀ (F := F)) (Name := ℕ) (U := UU) (Lvl := ℕ) 𝒱₀ (c : Thread nD τ) none (Q := Q) Set.univ (m := m) (r := r)
    (w := w) (Mk := Finset.univ) (hx := hx) (hm := hm) (k := k) (S := Finset.univ) (f := f) (Finset.subset_univ _)
  exact h

/-- What the landing of copy 0 hands over. -/
theorem payR0 (c : Dev nD) : iprop(ptX (rgt c) 1 0 fullShare (xfin I (rgt c)) ∗ diaLand (F := F) (lft c)) ⊢ payR I (rgt c) 0 :=
  Entails.of_eq (by dsimp only [payR]; rw [show dia (rgt c) = lft c from by revert c; decide])

/-! ## Copies -/

theorem credX {dst : Memref sig .tc .vmem S128x512 .bf16} {s : Fin 4} {b : Fin 2} (h : dst = mX s b) : dst.view.dmaCredit = N := by subst h; rfl
theorem credP {dst : Memref sig .tc .vmem S128x512 .bf16} {s : Fin 3} {b : Fin 2} (h : dst = mP s b) : dst.view.dmaCredit = N := by subst h; rfl
theorem credR {dst : Memref sig .tc .vmem S128x512 .bf16} {s : Fin 3} {b : Fin 2} (h : dst = mR s b) : dst.view.dmaCredit = N := by subst h; rfl

/-- Starting copy `k` of the own activations: half `b` to slot `s` of device `n`. -/
theorem send_X (κ : GSem nD τ sig → ℕ) (c : Dev nD) (k : Fin 12) (ks : List (Fin 12)) (s : Fin 4) (b : Fin 2) (sh : Fin 4) (hs : xsrc (tgt c k) s = c) (F' : sProp (MT nD τ sig Unit (Elt F) ℕ UU ℕ))
    {n : Dev nD} {src dst : Memref sig .tc .vmem S128x512 .bf16} {sS sR : DmaSem sig}
    (hn : n = tgt c k) (hsr : src = mX 0 b) (hds : dst = mX s b) (hS : sS = sendS k) (hR : sR = recvS k)
    (h₀ : land (F := F) (tgt c k) k ⊢ iprop((∃ f, ptX (tgt c k) s b fullShare f) ∗ reached ER (recvCell (tgt c k) k) 0))
    (h₁ : ptX c 0 b (shr sh) (xfin I c) ⊢ payS I c k) (h₂ : iprop(ptX (tgt c k) s b fullShare (xfin I (tgt c k)) ∗ F') ⊢ payR I (tgt c k) k)
    {hsc : (dst : Memref sig ((n : Thread nD τ)).2.kind .vmem S128x512 .bf16).view.ref.isScScratch = false}
    {hsrc : src.view.WordExact} {hdst : dst.view.WordExact} {hsem : DmaTarget.Typed .vmem (.dma sR) (.remote (n : Thread nD τ) dst (.dma sS) hsc)}
    {kk : PUnit → Prog (TpuEff nD τ sig (Elt F) Λ₀ .tc) α} :
    recs I κ ⊢ iprop(ptX c 0 b (shr sh) (xfin I c) -∗ land (tgt c k) k -∗ F' -∗ copyRes c k -∗ ow c (k :: ks)
      -∗ ((sendCred c k ∗ ow c ks) -∗ wp frame (wpE (defs₀ (F := F)) 𝒱₀ c none) Set.univ (kk ⟨⟩) Q)
      -∗ wp frame (wpE (defs₀ (F := F)) 𝒱₀ c none) Set.univ (.op (.enqueueDma src (.remote (n : Thread nD τ) dst (.dma sS) hsc) (.dma sR) hsrc hdst hsem) kk) Q) := by
  subst hn hsr hds hS hR
  have h := fun fd => send_step (Q := Q) I κ c k ks (src := mX 0 b) (dst := mX s b) (hsc := hsc) (hsrc := hsrc) (hdst := hdst) (hsem := hsem) (kk := kk) (q := shr sh) (fs := xfin I c)
    (fd := fd) F' rfl rfl rfl rfl h₁ ((sep_mono_left (Entails.of_eq (landX I (tgt c k) c s b hs fd))).trans h₂)
  iintro #Hr Hs Hl HF Hc HO
  ihave Hl := h₀ $$ Hl
  icases Hl with ⟨⟨%f, Hd⟩, #Hre⟩
  iapply (h f)
  isplitr; · iexact Hr
  isplitl [Hs]; · iexact Hs
  isplitl [Hd HF]; · isplitl [Hd]; · iexact Hd
                     iexact HF
  isplitr; · iexact Hre
  isplitl [Hc]; · iexact Hc
  iexact HO

/-- Starting copy `k` of a part: part `(i, b)` to slot `j` of device `n`. -/
theorem send_P (κ : GSem nD τ sig → ℕ) (c : Dev nD) (k : Fin 12) (ks : List (Fin 12)) (i j : Fin 3) (b : Fin 2) (hs : rsrc (tgt c k) j = c) (hj : rpart j = i)
    {n : Dev nD} {src dst : Memref sig .tc .vmem S128x512 .bf16} {sS sR : DmaSem sig}
    (hn : n = tgt c k) (hsr : src = mP i b) (hds : dst = mR j b) (hS : sS = sendS k) (hR : sR = recvS k)
    (h₀ : land (F := F) (tgt c k) k ⊢ iprop((∃ f, ptR (tgt c k) j b f) ∗ reached ER (recvCell (tgt c k) k) 0))
    (h₁ : ptP c i b (pfin I c) ⊢ payS I c k) (h₂ : ptR (tgt c k) j b (rfin I (tgt c k)) ⊢ payR I (tgt c k) k)
    {hsc : (dst : Memref sig ((n : Thread nD τ)).2.kind .vmem S128x512 .bf16).view.ref.isScScratch = false}
    {hsrc : src.view.WordExact} {hdst : dst.view.WordExact} {hsem : DmaTarget.Typed .vmem (.dma sR) (.remote (n : Thread nD τ) dst (.dma sS) hsc)}
    {kk : PUnit → Prog (TpuEff nD τ sig (Elt F) Λ₀ .tc) α} :
    recs I κ ⊢ iprop(ptP c i b (pfin I c) -∗ land (tgt c k) k -∗ copyRes c k -∗ ow c (k :: ks)
      -∗ ((sendCred c k ∗ ow c ks) -∗ wp frame (wpE (defs₀ (F := F)) 𝒱₀ c none) Set.univ (kk ⟨⟩) Q)
      -∗ wp frame (wpE (defs₀ (F := F)) 𝒱₀ c none) Set.univ (.op (.enqueueDma src (.remote (n : Thread nD τ) dst (.dma sS) hsc) (.dma sR) hsrc hdst hsem) kk) Q) := by
  subst hn hsr hds hS hR
  have h := fun fd => send_step (Q := Q) I κ c k ks (src := mP i b) (dst := mR j b) (hsc := hsc) (hsrc := hsrc) (hdst := hdst) (hsem := hsem) (kk := kk) (q := fullShare) (fs := pfin I c)
    (fd := fd) iprop(emp) rfl rfl rfl rfl h₁ ((sep_emp (PROP := sProp 𝕄)).1.trans ((Entails.of_eq (landR I (tgt c k) c i j b hs hj fd)).trans h₂))
  iintro #Hr Hs Hl Hc HO
  ihave Hl := h₀ $$ Hl
  icases Hl with ⟨⟨%f, Hd⟩, #Hre⟩
  iapply (h f)
  isplitr; · iexact Hr
  isplitl [Hs]; · iexact Hs
  isplitl [Hd]; · isplitl [Hd]; · iexact Hd
                  iempintro
  isplitr; · iexact Hre
  isplitl [Hc]; · iexact Hc
  iexact HO

/-- Waiting for the landing of copy `k`, which hands over `P`. -/
theorem recv (κ : GSem nD τ sig → ℕ) (c : Dev nD) (k : Fin 12) (ks : List (Fin 12)) {P : sProp (MT nD τ sig Unit (Elt F) ℕ UU ℕ)}
    {sR : DmaSem sig} {src dst : Memref sig .tc .vmem S128x512 .bf16}
    (hR : sR = recvS k) (hN : dst.view.dmaCredit = N) (hl : ∀ j ∈ ks, lvK k < lvK j) (hp : payR I c k ⊢ P)
    {hsrc : src.view.WordExact} {hdst : dst.view.WordExact} {kk : PUnit → Prog (TpuEff nD τ sig (Elt F) Λ₀ .tc) α} :
    recs I κ ⊢ iprop(levAts L lv -∗ recvRes c k -∗ ow c ks
      -∗ ((P ∗ recvDone c k ∗ ow c ks) -∗ wp frame (wpE (defs₀ (F := F)) 𝒱₀ c none) Set.univ (kk ⟨⟩) Q)
      -∗ wp frame (wpE (defs₀ (F := F)) 𝒱₀ c none) Set.univ (.op (.waitDma2 sR src dst hsrc hdst) kk) Q) := by
  iintro #Hr #Hl Hrr HO Hk
  iapply (recv_step I κ c k ks hR hN hl) $$ [Hrr HO]
  · isplitr; · iexact Hr
    isplitr; · iexact Hl
    isplitl [Hrr]; · iexact Hrr
    iexact HO
  iintro ⟨Hp, Hd⟩
  ihave Hp := hp $$ Hp
  iapply Hk
  isplitl [Hp]; · iexact Hp
  iexact Hd

/-- Waiting for copy `k` to have left, which gives `P` back. -/
theorem drain (κ : GSem nD τ sig → ℕ) (c : Dev nD) (k : Fin 12) {P : sProp (MT nD τ sig Unit (Elt F) ℕ UU ℕ)}
    {sS : DmaSem sig} {src dst : Memref sig .tc .vmem S128x512 .bf16}
    (hS : sS = sendS k) (hN : dst.view.dmaCredit = N) (hp : payS I c k ⊢ P)
    {hsrc : src.view.WordExact} {hdst : dst.view.WordExact} {kk : PUnit → Prog (TpuEff nD τ sig (Elt F) Λ₀ .tc) α} :
    recs I κ ⊢ iprop(sendPos c k -∗ sendCred c k -∗ ow c []
      -∗ ((P ∗ sendDone c k ∗ ow c []) -∗ wp frame (wpE (defs₀ (F := F)) 𝒱₀ c none) Set.univ (kk ⟨⟩) Q)
      -∗ wp frame (wpE (defs₀ (F := F)) 𝒱₀ c none) Set.univ (.op (.waitDma2 sS src dst hsrc hdst) kk) Q) := by
  iintro #Hr Hs Hc HO Hk
  iapply (drain_step I κ c k hS hN) $$ [Hs Hc HO]
  · isplitr; · iexact Hr
    isplitl [Hs]; · iexact Hs
    isplitl [Hc]; · iexact Hc
    iexact HO
  iintro ⟨Hp, Hd⟩
  ihave Hp := hp $$ Hp
  iapply Hk
  isplitl [Hp]; · iexact Hp
  iexact Hd

end Cert.Talk
-- ==== Proof.First.lean ====
/-
The first parts of the body: the own activations stored, the handshake, the weights and the keys and values loaded, the first copy.
-/
module

public import proofs.«01_k».proof.Proof.Names

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Dev nD → Inp F) (κ : GSem nD τ sig → ℕ) (c : Dev nD)

/-- Window `m` of device `c` holds `g`. -/
abbrev ptW (c : Dev nD) {s : Shape} {t : EltTy} (m : Memref sig .tc .vmem s t) (g : Buf (Elt F) (m.view.loc (c : Thread nD τ))) : sProp 𝕄 :=
  m.view.loc (c : Thread nD τ) ↦{fullShare} g

/-- What the five windows of device `c` hold is what `I c` says the body loads from them. -/
structure Reads (g0 : Buf (Elt F) (a0.view.loc (c : Thread nD τ))) (g1 : Buf (Elt F) (a1.view.loc (c : Thread nD τ))) (g2 : Buf (Elt F) (a2.view.loc (c : Thread nD τ)))
    (g3 : Buf (Elt F) (a3.view.loc (c : Thread nD τ))) (g4 : Buf (Elt F) (a4.view.loc (c : Thread nD τ))) : Prop where
  x : (a0.access (Rect.unit (s := S256x512) ![0, 0] S256x512.size inb_S256x512_S256x512_0_0)).read (Elt F) g0 = (I c).x
  wq : (a1.access (Rect.unit (s := S512x512) ![0, 0] S512x512.size inb_S512x512_S512x512_0_0)).read (Elt F) g1 = (I c).wq
  wo : (a2.access (Rect.unit (s := S512x512) ![0, 0] S512x512.size inb_S512x512_S512x512_0_0)).read (Elt F) g2 = (I c).wo
  k0 : (a3.access (Rect.unit (s := S16x128x64) ![0, 0, 0] S8x128x64.size inb_S16x128x64_S8x128x64_0_0_0)).read (Elt F) g3 = (I c).k 0
  k1 : (a3.access (Rect.unit (s := S16x128x64) ![8, 0, 0] S8x128x64.size inb_S16x128x64_S8x128x64_8_0_0)).read (Elt F) g3 = (I c).k 1
  v0 : (a4.access (Rect.unit (s := S16x128x64) ![0, 0, 0] S8x128x64.size inb_S16x128x64_S8x128x64_0_0_0)).read (Elt F) g4 = (I c).v 0
  v1 : (a4.access (Rect.unit (s := S16x128x64) ![8, 0, 0] S8x128x64.size inb_S16x128x64_S8x128x64_8_0_0)).read (Elt F) g4 = (I c).v 1

/-- What device `c` has for the handshake: its tokens at the neighbours' barrier cells, its own credit and position. -/
def barRes (c : Dev nD) : sProp 𝕄 :=
  iprop(dutyTok ER (barCell (lft c)) 0 true ∗ reached ER (barCell (lft c)) 0 ∗ dutyTok ER (barCell (rgt c)) 0 false ∗ reached ER (barCell (rgt c)) 0
    ∗ cred (tallyAt (barCell c) () 2) ∗ atPos ER (barCell c) 0 ∅ 0)
/-- All the places of device `c` where something lands. -/
def lands (c : Dev nD) : sProp 𝕄 :=
  iprop((land c 0 ∗ land c 2 ∗ land c 8 ∗ land c 11) ∗ land c 1 ∗ land c 3 ∗ land c 6 ∗ land c 7 ∗ diaLand c)

section Slot0
variable {α : Type} {Q : α → sProp (MT nD τ sig Unit (Elt F) ℕ UU ℕ)}

/-- The load of slot 0 as a whole. -/
theorem load_X0 (r : Rect S4x256x512) (hr : r = rectX0) (f : BufX (F := F))
    {hl : xb.view.LoadsAt r.toLoadRect} {k : (r.shape.Idx → Elt F .bf16) → Prog (TpuEff nD τ sig (Elt F) Λ₀ .tc) α} :
    (((c : Thread nD τ).loc cc0_scratch0) ↦[(xb.access rectX0).set]{fullShare} f : sProp 𝕄)
      ⊢ iprop(((((c : Thread nD τ).loc cc0_scratch0) ↦[(xb.access rectX0).set]{fullShare} f) -∗ wp frame (wpE (defs₀ (F := F)) 𝒱₀ c none) Set.univ (k ((xb.access r).read (Elt F) f)) Q)
        -∗ wp frame (wpE (defs₀ (F := F)) 𝒱₀ c none) Set.univ (.op (.load xb r.toLoadRect hl) k) Q) := by
  subst hr
  have h := wp_load_rect (Γ := PendingWaitsCtx.empty) (defs := defs₀ (F := F)) (Name := ℕ) (U := UU) (Lvl := ℕ) 𝒱₀ (c : Thread nD τ) none (Q := Q) Set.univ (m := xb) (r := rectX0)
    (hl := hl) (k := k) (q := fullShare) (S := (xb.access rectX0).set) (f := f) (Finset.Subset.refl _)
  exact h

/-- The store of the own activations, which leaves the two halves of slot 0. -/
theorem store_X0 (r : Rect S4x256x512) (hr : r = rectX0) (f : BufX (F := F)) {w : r.shape.Idx → Elt F .bf16} (hw : w = hr ▸ k0_pay1 (I c).x)
    {hx : (xb.access r).Stores Finset.univ} {hm : (Finset.univ : Finset r.shape.Idx) = Finset.univ ∨ ∀ a, r.stride a = 1}
    {k : PUnit → Prog (TpuEff nD τ sig (Elt F) Λ₀ .tc) α} :
    (((c : Thread nD τ).loc cc0_scratch0) ↦[(xb.access rectX0).set]{fullShare} f : sProp 𝕄)
      ⊢ iprop(((ptX c 0 0 fullShare (xfin I c) ∗ ptX c 0 1 fullShare (xfin I c)) -∗ wp frame (wpE (defs₀ (F := F)) 𝒱₀ c none) Set.univ (k ⟨⟩) Q)
        -∗ wp frame (wpE (defs₀ (F := F)) 𝒱₀ c none) Set.univ (.op (.store xb r w Finset.univ hx hm) k) Q) := by
  subst hr; subst hw
  have h := wp_store (Γ := PendingWaitsCtx.empty) (defs := defs₀ (F := F)) (Name := ℕ) (U := UU) (Lvl := ℕ) 𝒱₀ (c : Thread nD τ) none (Q := Q) Set.univ (m := xb) (r := rectX0)
    (w := k0_pay1 (I c).x) (Mk := Finset.univ) (hx := hx) (hm := hm) (k := k) (S := (xb.access rectX0).set) (f := f) (Finset.Subset.refl _)
  rw [slot0_store I c f] at h
  refine h.trans (wand_mono_left (wand_mono_left (slot0_split c _).1))

end Slot0

set_option maxRecDepth 8192 in
/-- Part 1: the own activations are stored, the neighbours meet, the weights are loaded. -/
theorem run1 (g0 : Buf (Elt F) (a0.view.loc (c : Thread nD τ))) (g1 : Buf (Elt F) (a1.view.loc (c : Thread nD τ))) (g2 : Buf (Elt F) (a2.view.loc (c : Thread nD τ)))
    (hx : (a0.access (Rect.unit (s := S256x512) ![0, 0] S256x512.size inb_S256x512_S256x512_0_0)).read (Elt F) g0 = (I c).x) (hq : (a1.access (Rect.unit (s := S512x512) ![0, 0] S512x512.size inb_S512x512_S512x512_0_0)).read (Elt F) g1 = (I c).wq) (ho : (a2.access (Rect.unit (s := S512x512) ![0, 0] S512x512.size inb_S512x512_S512x512_0_0)).read (Elt F) g2 = (I c).wo)
    (f : BufX (F := F)) (Kt : (Σ' (d0 : Dev nD) (v5 : BitVec 32) (v7 : BitVec 32) (v9 : BitVec 32) (v23 : FVec F S512x512 .bf16), FVec F S8x64x512 .bf16) → sProp (MT nD τ sig Unit (Elt F) ℕ UU ℕ)) :
    iprop(recs I κ ∗ levAts L lv ∗ ptW c a0 g0 ∗ ptW c a1 g1 ∗ ptW c a2 g2
        ∗ (((c : Thread nD τ).loc cc0_scratch0) ↦[(xb.access rectX0).set]{fullShare} f) ∗ barRes c ∗ lands c ∗ (∃ W, owes (c : Thread nD τ) (O₀ c) W)
        ∗ (∀ v5 : BitVec 32, ∀ v7 : BitVec 32, ∀ v9 : BitVec 32, (ptW c a0 g0 ∗ ptW c a1 g1 ∗ ptW c a2 g2 ∗ ptX c 0 0 fullShare (xfin I c) ∗ ptX c 0 1 fullShare (xfin I c)
          ∗ barL c ∗ barR c ∗ atPos ER (barCell c) (0 + 1) ∅ 0 ∗ ow c allK) -∗ Kt ⟨c, v5, v7, v9, wqv I c, wov I c⟩))
      ⊢ wp frame (wpE (defs₀ (F := F)) 𝒱₀ c none) Set.univ (k0_part1 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6) Kt := by
  rw [k0_part1_eq_skeleton]; unfold k0_part1_skel barRes lands
  simp only [Prog.lift, Prog.bind_op, Prog.bind_ret, Prog.pure_eq_ret, semSignalWord, semWaitWord, wp_deviceId]
  iintro ⟨#Hr, #Hl, A0, A1, A2, X0, ⟨T1, #Re1, T2, #Re2, Cr, At⟩, ⟨⟨L0, L2, L8, L11⟩, LL⟩, HO, Hk⟩
  iapply (load_W c a0 (Rect.unit (s := S256x512) ![0, 0] S256x512.size inb_S256x512_S256x512_0_0) g0) $$ A0; iintro A0
  iapply (load_X0 c (Rect.unit (s := S4x256x512) ![0, 0, 0] S1x256x512.size inb_S4x256x512_S1x256x512_0_0_0) rfl f) $$ X0; iintro X0
  iapply (store_X0 I c (Rect.unit (s := S4x256x512) ![0, 0, 0] S1x256x512.size inb_S4x256x512_S1x256x512_0_0_0) rfl f (congrArg k0_pay1 hx)) $$ X0; iintro ⟨X00, X01⟩
  iapply (signal_left I κ c (dev1_eq c)) $$ [HO T1 L0 L2 L8 L11]
  · iframe
    iframe Hr Re1
  iintro HO
  iapply (signal_right I κ c (dev2_eq c)) $$ [HO T2 LL]
  · iframe
    iframe Hr Re2
  iintro HO
  iapply (bar_step I κ c) $$ [HO Cr At]
  · iframe
    iframe Hr Hl
  iintro ⟨BL, BR, At, HO⟩
  iapply (load_W c a1 (Rect.unit (s := S512x512) ![0, 0] S512x512.size inb_S512x512_S512x512_0_0) g1) $$ A1; iintro A1
  iapply (load_W c a2 (Rect.unit (s := S512x512) ![0, 0] S512x512.size inb_S512x512_S512x512_0_0) g2) $$ A2; iintro A2
  rw [hq, ho, wp_ret]; imodintro; iapply Hk; iframe

/-- Part 2: the keys and values are loaded, copy 0 is started. -/
theorem run2 (v5 v7 : BitVec 32) (g3 : Buf (Elt F) (a3.view.loc (c : Thread nD τ))) (g4 : Buf (Elt F) (a4.view.loc (c : Thread nD τ)))
    (hk0 : (a3.access (Rect.unit (s := S16x128x64) ![0, 0, 0] S8x128x64.size inb_S16x128x64_S8x128x64_0_0_0)).read (Elt F) g3 = (I c).k 0) (hk1 : (a3.access (Rect.unit (s := S16x128x64) ![8, 0, 0] S8x128x64.size inb_S16x128x64_S8x128x64_8_0_0)).read (Elt F) g3 = (I c).k 1)
    (hv0 : (a4.access (Rect.unit (s := S16x128x64) ![0, 0, 0] S8x128x64.size inb_S16x128x64_S8x128x64_0_0_0)).read (Elt F) g4 = (I c).v 0) (hv1 : (a4.access (Rect.unit (s := S16x128x64) ![8, 0, 0] S8x128x64.size inb_S16x128x64_S8x128x64_8_0_0)).read (Elt F) g4 = (I c).v 1)
    (Kt : _ → sProp (MT nD τ sig Unit (Elt F) ℕ UU ℕ)) :
    iprop(recs I κ ∗ levAts L lv ∗ ptW c a3 g3 ∗ ptW c a4 g4 ∗ ptX c 0 0 (shr 1) (xfin I c) ∗ land (tgt c 0) 0 ∗ diaLand (lft c) ∗ copyRes c 0 ∗ ow c allK
        ∗ ((ptW c a3 g3 ∗ ptW c a4 g4 ∗ sendCred c 0 ∗ ow c [1, 2, 3, 4, 5, 6, 7, 8, 9, 10, 11])
          -∗ Kt ⟨keys (I c) 0, keys (I c) 1, vals (I c) 0, vals (I c) 1, Scalar.muli v5 1#32⟩))
      ⊢ wp frame (wpE (defs₀ (F := F)) 𝒱₀ c none) Set.univ (k0_part2 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v5 v7) Kt := by
  rw [k0_part2_eq_skeleton]; unfold k0_part2_skel
  simp only [Prog.lift, Prog.bind_op, Prog.bind_ret, Prog.pure_eq_ret]
  iintro ⟨#Hr, #Hl, A3, A4, S0, L0, LD, C0, HO, Hk⟩
  iapply (load_W c a3 (Rect.unit (s := S16x128x64) ![0, 0, 0] S8x128x64.size inb_S16x128x64_S8x128x64_0_0_0) g3) $$ A3; iintro A3
  iapply (load_W c a3 (Rect.unit (s := S16x128x64) ![8, 0, 0] S8x128x64.size inb_S16x128x64_S8x128x64_8_0_0) g3) $$ A3; iintro A3
  iapply (load_W c a4 (Rect.unit (s := S16x128x64) ![0, 0, 0] S8x128x64.size inb_S16x128x64_S8x128x64_0_0_0) g4) $$ A4; iintro A4
  iapply (load_W c a4 (Rect.unit (s := S16x128x64) ![8, 0, 0] S8x128x64.size inb_S16x128x64_S8x128x64_8_0_0) g4) $$ A4; iintro A4
  iapply (send_X I κ c 0 [1, 2, 3, 4, 5, 6, 7, 8, 9, 10, 11] 1 0 1 (lft_rgt c) (diaLand (lft c)) (dev3_eq c) mX_00 mX_10 ss_0 sr_0 (Entails.refl _) (Entails.refl _) (payR0 I c)) $$ Hr S0 L0 LD C0 HO
  iintro ⟨D0, HO⟩
  rw [hk0, hk1, hv0, hv1, wp_ret, show k0_pay4 ((I c).k 0) = keys (I c) 0 from rfl, show k0_pay5 ((I c).k 1) = keys (I c) 1 from rfl,
    show k0_pay6 ((I c).v 0) = vals (I c) 0 from rfl, show k0_pay7 ((I c).v 1) = vals (I c) 1 from rfl]; imodintro; iapply Hk; iframe

end Cert.Talk
-- ==== Proof.Middle.lean ====
/-
The parts of the body from the second copy to the last part sent.
-/
module

public import proofs.«01_k».proof.Proof.Names

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Dev nD → Inp F) (κ : GSem nD τ sig → ℕ) (c : Dev nD)

/-- Part 3: copies 1 and 2 are started. -/
theorem run3 (v5 v7 v54 : BitVec 32) (Kt : _ → sProp (MT nD τ sig Unit (Elt F) ℕ UU ℕ)) :
    iprop(recs I κ ∗ levAts L lv ∗ copyRes c 1 ∗ land (tgt c 1) 1 ∗ ptX c 0 0 (shr 2) (xfin I c) ∗ copyRes c 2 ∗ land (tgt c 2) 2 ∗ ptX c 0 1 (shr 1) (xfin I c)
        ∗ ow c [1, 2, 3, 4, 5, 6, 7, 8, 9, 10, 11]
        ∗ ((sendCred c 1 ∗ sendCred c 2 ∗ ow c [3, 4, 5, 6, 7, 8, 9, 10, 11]) -∗ Kt ⟨⟩))
      ⊢ wp frame (wpE (defs₀ (F := F)) 𝒱₀ c none) Set.univ (k0_part3 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v5 v7 v54) Kt := by
  rw [k0_part3_eq_skeleton]; unfold k0_part3_skel
  simp only [Prog.lift, Prog.bind_op, Prog.bind_ret, Prog.pure_eq_ret]
  iintro ⟨#Hr, #Hl, C1, L1, S1, C2, L2, S2, HO, Hk⟩
  iapply (send_X I κ c 1 [2, 3, 4, 5, 6, 7, 8, 9, 10, 11] 2 0 2 (rgt_lft c) iprop(emp) (dev4_eq c) mX_00 mX_20 ss_1 sr_1 (Entails.refl _) (Entails.refl _) (sep_emp (PROP := sProp 𝕄)).1) $$ Hr S1 L1 [] C1 HO
  · iempintro
  iintro ⟨D1, HO⟩
  iapply (send_X I κ c 2 [3, 4, 5, 6, 7, 8, 9, 10, 11] 1 1 1 (lft_rgt c) iprop(emp) (dev5_eq c) mX_01 mX_11 ss_2 sr_2 (Entails.refl _) (Entails.refl _) (sep_emp (PROP := sProp 𝕄)).1) $$ Hr S2 L2 [] C2 HO
  · iempintro
  iintro ⟨D2, HO⟩
  rw [wp_ret]; imodintro; iapply Hk; iframe

/-- Part 4: copy 3 is started, the own first half is worked on, the landing of copy 0 is waited for. -/
theorem run4 (v7 v9 : BitVec 32) (Kt : _ → sProp (MT nD τ sig Unit (Elt F) ℕ UU ℕ)) :
    iprop(recs I κ ∗ levAts L lv ∗ copyRes c 3 ∗ land (tgt c 3) 3 ∗ ptX c 0 1 (shr 2) (xfin I c) ∗ ptX c 0 0 (shr 0) (xfin I c) ∗ recvRes c 0 ∗ ow c [3, 4, 5, 6, 7, 8, 9, 10, 11]
        ∗ ((sendCred c 3 ∗ ptX c 0 0 (shr 0) (xfin I c) ∗ diaLand (dia c) ∗ ptX c 1 0 fullShare (xfin I c) ∗ recvDone c 0 ∗ ow c [4, 5, 6, 7, 8, 9, 10, 11]) -∗ Kt ⟨k0_pay8 (wqv I c) (wov I c) (keys (I c) 0) (vals (I c) 0) (ldX I c 0 0), Scalar.muli v9 1#32, 0#32⟩))
      ⊢ wp frame (wpE (defs₀ (F := F)) 𝒱₀ c none) Set.univ (k0_part4 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v7 v9 (wqv I c) (wov I c) (keys (I c) 0) (vals (I c) 0)) Kt := by
  rw [k0_part4_eq_skeleton]; unfold k0_part4_skel
  simp only [Prog.lift, Prog.bind_op, Prog.bind_ret, Prog.pure_eq_ret]
  iintro ⟨#Hr, #Hl, C3, L3, S3, X00, R0, HO, Hk⟩
  iapply (send_X I κ c 3 [4, 5, 6, 7, 8, 9, 10, 11] 2 1 2 (rgt_lft c) iprop(emp) (dev6_eq c) mX_01 mX_21 ss_3 sr_3 (Entails.refl _) (Entails.refl _) (sep_emp (PROP := sProp 𝕄)).1) $$ Hr S3 L3 [] C3 HO
  · iempintro
  iintro ⟨D3, HO⟩
  iapply (load_X c (Rect.unit (s := S4x256x512) ![0, 0, 0] S1x128x512.size inb_S4x256x512_S1x128x512_0_0_0) 0 0 (shr 0) (xfin I c) rfl) $$ X00; iintro X00
  iapply (recv I κ c 0 [4, 5, 6, 7, 8, 9, 10, 11] (P := iprop(ptX c 1 0 fullShare (xfin I c) ∗ diaLand (dia c))) sr_0 (credX mX_10) (by decide) (Entails.refl _)) $$ Hr Hl R0 HO
  iintro ⟨⟨X10, LX⟩, E0, HO⟩
  rw [wp_ret]; imodintro; iapply Hk; iframe

/-- Part 5: copies 4 and 5 are started, the left neighbour's first half is loaded. -/
theorem run5 (v9 v111 w : BitVec 32) (Kt : _ → sProp (MT nD τ sig Unit (Elt F) ℕ UU ℕ)) :
    iprop(recs I κ ∗ levAts L lv ∗ copyRes c 4 ∗ land (tgt c 4) 4 ∗ ptX c 0 0 (shr 3) (xfin I c) ∗ copyRes c 5 ∗ land (tgt c 5) 5 ∗ ptX c 0 1 (shr 3) (xfin I c)
        ∗ ptX c 1 0 fullShare (xfin I c) ∗ ow c [4, 5, 6, 7, 8, 9, 10, 11]
        ∗ ((sendCred c 4 ∗ sendCred c 5 ∗ ptX c 1 0 fullShare (xfin I c) ∗ ow c [6, 7, 8, 9, 10, 11]) -∗ Kt (k0_pay9 (wqv I c) (keys (I c) 0) (vals (I c) 0) (ldX I c 1 0))))
      ⊢ wp frame (wpE (defs₀ (F := F)) 𝒱₀ c none) Set.univ (k0_part5 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v9 (wqv I c) (keys (I c) 0) (vals (I c) 0) v111 w) Kt := by
  rw [k0_part5_eq_skeleton]; unfold k0_part5_skel
  simp only [Prog.lift, Prog.bind_op, Prog.bind_ret, Prog.pure_eq_ret]
  iintro ⟨#Hr, #Hl, C4, L4, S4, C5, L5, S5, X10, HO, Hk⟩
  iapply (send_X I κ c 4 [5, 6, 7, 8, 9, 10, 11] 3 0 3 (dia_dia c) iprop(emp) (dev7_eq c) mX_00 mX_30 ss_4 sr_4 (Entails.refl _) (Entails.refl _) (sep_emp (PROP := sProp 𝕄)).1) $$ Hr S4 L4 [] C4 HO
  · iempintro
  iintro ⟨D4, HO⟩
  iapply (send_X I κ c 5 [6, 7, 8, 9, 10, 11] 3 1 3 (dia_dia c) iprop(emp) (dev8_eq c) mX_01 mX_31 ss_5 sr_5 (Entails.refl _) (Entails.refl _) (sep_emp (PROP := sProp 𝕄)).1) $$ Hr S5 L5 [] C5 HO
  · iempintro
  iintro ⟨D5, HO⟩
  iapply (load_X c (Rect.unit (s := S4x256x512) ![1, 0, 0] S1x128x512.size inb_S4x256x512_S1x128x512_1_0_0) 1 0 fullShare (xfin I c) rfl) $$ X10; iintro X10
  rw [wp_ret]; imodintro; iapply Hk; iframe

/-- Part 6: part (0, 0) is stored and sent; the landing of copy 2. -/
theorem run6 (v5 : BitVec 32) (Kt : _ → sProp (MT nD τ sig Unit (Elt F) ℕ UU ℕ)) :
    iprop(recs I κ ∗ levAts L lv ∗ (∃ f, ptP c 0 0 f) ∗ copyRes c 6 ∗ land (tgt c 6) 6 ∗ recvRes c 2 ∗ ow c [6, 7, 8, 9, 10, 11]
        ∗ ((sendCred c 6 ∗ ptX c 1 1 fullShare (xfin I c) ∗ recvDone c 2 ∗ ow c [7, 8, 9, 10, 11]) -∗ Kt ⟨⟩))
      ⊢ wp frame (wpE (defs₀ (F := F)) 𝒱₀ c none) Set.univ (k0_part6 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v5 (wov I c) (k0_pay9 (wqv I c) (keys (I c) 0) (vals (I c) 0) (ldX I c 1 0))) Kt := by
  rw [k0_part6_eq_skeleton]; unfold k0_part6_skel
  simp only [Prog.lift, Prog.bind_op, Prog.bind_ret, Prog.pure_eq_ret]
  iintro ⟨#Hr, #Hl, ⟨%f, P00⟩, C6, L6, R2, HO, Hk⟩
  iapply (load_P c (Rect.unit (s := S3x2x128x512) ![0, 0, 0, 0] S1x1x128x512.size inb_S3x2x128x512_S1x1x128x512_0_0_0_0) 0 0 f rfl) $$ P00; iintro P00
  iapply (store_P I c (Rect.unit (s := S3x2x128x512) ![0, 0, 0, 0] S1x1x128x512.size inb_S3x2x128x512_S1x1x128x512_0_0_0_0) 0 0 1 rfl f rfl rfl) $$ P00; iintro P00
  iapply (send_P I κ c 6 [7, 8, 9, 10, 11] 0 1 0 (rgt_lft c) rfl (dev9_eq c) mP_00 mR_10 ss_6 sr_6 (Entails.refl _) (Entails.refl _) (Entails.refl _)) $$ Hr P00 L6 C6 HO
  iintro ⟨D6, HO⟩
  iapply (recv I κ c 2 [7, 8, 9, 10, 11] (P := ptX c 1 1 fullShare (xfin I c)) sr_2 (credX mX_11) (by decide) (Entails.refl _)) $$ Hr Hl R2 HO
  iintro ⟨X11, E2, HO⟩
  rw [wp_ret]; imodintro; iapply Hk; iframe

/-- Part 7: part (0, 1) is stored. -/
theorem run7 (v5 : BitVec 32) (Kt : _ → sProp (MT nD τ sig Unit (Elt F) ℕ UU ℕ)) :
    iprop(recs I κ ∗ levAts L lv ∗ ptX c 1 1 fullShare (xfin I c) ∗ (∃ f, ptP c 0 1 f)
        ∗ ((ptX c 1 1 fullShare (xfin I c) ∗ ptP c 0 1 (pfin I c)) -∗ Kt ⟨⟩))
      ⊢ wp frame (wpE (defs₀ (F := F)) 𝒱₀ c none) Set.univ (k0_part7 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 v5 (wqv I c) (wov I c) (keys (I c) 1) (vals (I c) 1)) Kt := by
  rw [k0_part7_eq_skeleton]; unfold k0_part7_skel
  simp only [Prog.lift, Prog.bind_op, Prog.bind_ret, Prog.pure_eq_ret]
  iintro ⟨#Hr, #Hl, X11, ⟨%f, P01⟩, Hk⟩
  iapply (load_X c (Rect.unit (s := S4x256x512) ![1, 128, 0] S1x128x512.size inb_S4x256x512_S1x128x512_1_128_0) 1 1 fullShare (xfin I c) rfl) $$ X11; iintro X11
  iapply (load_P c (Rect.unit (s := S3x2x128x512) ![0, 1, 0, 0] S1x1x128x512.size inb_S3x2x128x512_S1x1x128x512_0_1_0_0) 0 1 f rfl) $$ P01; iintro P01
  iapply (store_P I c (Rect.unit (s := S3x2x128x512) ![0, 1, 0, 0] S1x1x128x512.size inb_S3x2x128x512_S1x1x128x512_0_1_0_0) 0 1 1 rfl f rfl rfl) $$ P01; iintro P01
  rw [wp_ret]; imodintro; iapply Hk; iframe

/-- Part 8: copy 7 is started; the landing of copy 1; part (1, 0) is stored. -/
theorem run8 (v5 : BitVec 32) (Kt : _ → sProp (MT nD τ sig Unit (Elt F) ℕ UU ℕ)) :
    iprop(recs I κ ∗ levAts L lv ∗ copyRes c 7 ∗ land (tgt c 7) 7 ∗ ptP c 0 1 (pfin I c) ∗ recvRes c 1 ∗ (∃ f, ptP c 1 0 f) ∗ ow c [7, 8, 9, 10, 11]
        ∗ ((sendCred c 7 ∗ ptX c 2 0 fullShare (xfin I c) ∗ recvDone c 1 ∗ ptP c 1 0 (pfin I c) ∗ ow c [8, 9, 10, 11]) -∗ Kt ⟨⟩))
      ⊢ wp frame (wpE (defs₀ (F := F)) 𝒱₀ c none) Set.univ (k0_part8 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v5 (wqv I c) (wov I c) (keys (I c) 0) (vals (I c) 0)) Kt := by
  rw [k0_part8_eq_skeleton]; unfold k0_part8_skel
  simp only [Prog.lift, Prog.bind_op, Prog.bind_ret, Prog.pure_eq_ret]
  iintro ⟨#Hr, #Hl, C7, L7, P01, R1, ⟨%f, P10⟩, HO, Hk⟩
  iapply (send_P I κ c 7 [8, 9, 10, 11] 0 1 1 (rgt_lft c) rfl (dev10_eq c) mP_01 mR_11 ss_7 sr_7 (Entails.refl _) (Entails.refl _) (Entails.refl _)) $$ Hr P01 L7 C7 HO
  iintro ⟨D7, HO⟩
  iapply (recv I κ c 1 [8, 9, 10, 11] (P := ptX c 2 0 fullShare (xfin I c)) sr_1 (credX mX_20) (by decide) (Entails.refl _)) $$ Hr Hl R1 HO
  iintro ⟨X20, E1, HO⟩
  iapply (load_X c (Rect.unit (s := S4x256x512) ![2, 0, 0] S1x128x512.size inb_S4x256x512_S1x128x512_2_0_0) 2 0 fullShare (xfin I c) rfl) $$ X20; iintro X20
  iapply (load_P c (Rect.unit (s := S3x2x128x512) ![1, 0, 0, 0] S1x1x128x512.size inb_S3x2x128x512_S1x1x128x512_1_0_0_0) 1 0 f rfl) $$ P10; iintro P10
  iapply (store_P I c (Rect.unit (s := S3x2x128x512) ![1, 0, 0, 0] S1x1x128x512.size inb_S3x2x128x512_S1x1x128x512_1_0_0_0) 1 0 2 rfl f rfl rfl) $$ P10; iintro P10
  rw [wp_ret]; imodintro; iapply Hk; iframe

/-- Part 9: copy 8 is started; the landing of copy 4. -/
theorem run9 (v7 v9 : BitVec 32) (Kt : _ → sProp (MT nD τ sig Unit (Elt F) ℕ UU ℕ)) :
    iprop(recs I κ ∗ levAts L lv ∗ copyRes c 8 ∗ land (tgt c 8) 8 ∗ ptP c 1 0 (pfin I c) ∗ recvRes c 4 ∗ ow c [8, 9, 10, 11]
        ∗ ((sendCred c 8 ∗ ptX c 3 0 fullShare (xfin I c) ∗ recvDone c 4 ∗ ow c [9, 10, 11]) -∗ Kt ⟨k0_pay13 (wqv I c) (keys (I c) 0) (ldX I c 3 0), k0_pay14 (wqv I c) (keys (I c) 0) (ldX I c 3 0)⟩))
      ⊢ wp frame (wpE (defs₀ (F := F)) 𝒱₀ c none) Set.univ (k0_part9 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v7 v9 (wqv I c) (keys (I c) 0)) Kt := by
  rw [k0_part9_eq_skeleton]; unfold k0_part9_skel
  simp only [Prog.lift, Prog.bind_op, Prog.bind_ret, Prog.pure_eq_ret]
  iintro ⟨#Hr, #Hl, C8, L8, P10, R4, HO, Hk⟩
  iapply (send_P I κ c 8 [9, 10, 11] 1 0 0 (lft_rgt c) rfl (dev11_eq c) mP_10 mR_00 ss_8 sr_8 (Entails.refl _) (Entails.refl _) (Entails.refl _)) $$ Hr P10 L8 C8 HO
  iintro ⟨D8, HO⟩
  iapply (recv I κ c 4 [9, 10, 11] (P := ptX c 3 0 fullShare (xfin I c)) sr_4 (credX mX_30) (by decide) (Entails.refl _)) $$ Hr Hl R4 HO
  iintro ⟨X30, E4, HO⟩
  iapply (load_X c (Rect.unit (s := S4x256x512) ![3, 0, 0] S1x128x512.size inb_S4x256x512_S1x128x512_3_0_0) 3 0 fullShare (xfin I c) rfl) $$ X30; iintro X30
  rw [wp_ret]; imodintro; iapply Hk; iframe

/-- Part 10: part (2, 0) is stored and sent. -/
theorem run10 (v9 : BitVec 32) (Kt : _ → sProp (MT nD τ sig Unit (Elt F) ℕ UU ℕ)) :
    iprop(recs I κ ∗ levAts L lv ∗ (∃ f, ptP c 2 0 f) ∗ copyRes c 9 ∗ land (tgt c 9) 9 ∗ ow c [9, 10, 11]
        ∗ ((sendCred c 9 ∗ ow c [10, 11]) -∗ Kt ⟨⟩))
      ⊢ wp frame (wpE (defs₀ (F := F)) 𝒱₀ c none) Set.univ (k0_part10 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v9 (wov I c) (vals (I c) 0) (k0_pay13 (wqv I c) (keys (I c) 0) (ldX I c 3 0)) (k0_pay14 (wqv I c) (keys (I c) 0) (ldX I c 3 0))) Kt := by
  rw [k0_part10_eq_skeleton]; unfold k0_part10_skel
  simp only [Prog.lift, Prog.bind_op, Prog.bind_ret, Prog.pure_eq_ret]
  iintro ⟨#Hr, #Hl, ⟨%f, P20⟩, C9, L9, HO, Hk⟩
  iapply (load_P c (Rect.unit (s := S3x2x128x512) ![2, 0, 0, 0] S1x1x128x512.size inb_S3x2x128x512_S1x1x128x512_2_0_0_0) 2 0 f rfl) $$ P20; iintro P20
  iapply (store_P I c (Rect.unit (s := S3x2x128x512) ![2, 0, 0, 0] S1x1x128x512.size inb_S3x2x128x512_S1x1x128x512_2_0_0_0) 2 0 3 rfl f rfl rfl) $$ P20; iintro P20
  iapply (send_P I κ c 9 [10, 11] 2 2 0 (dia_dia c) rfl (dev12_eq c) mP_20 mR_20 ss_9 sr_9 (Entails.refl _) (Entails.refl _) (Entails.refl _)) $$ Hr P20 L9 C9 HO
  iintro ⟨D9, HO⟩
  rw [wp_ret]; imodintro; iapply Hk; iframe

/-- Part 11: the landing of copy 5; part (2, 1) is stored. -/
theorem run11 (v9 : BitVec 32) (Kt : _ → sProp (MT nD τ sig Unit (Elt F) ℕ UU ℕ)) :
    iprop(recs I κ ∗ levAts L lv ∗ recvRes c 5 ∗ (∃ f, ptP c 2 1 f) ∗ ow c [10, 11]
        ∗ ((ptX c 3 1 fullShare (xfin I c) ∗ recvDone c 5 ∗ ptP c 2 1 (pfin I c) ∗ ow c [10, 11]) -∗ Kt ⟨⟩))
      ⊢ wp frame (wpE (defs₀ (F := F)) 𝒱₀ c none) Set.univ (k0_part11 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 v9 (wqv I c) (wov I c) (keys (I c) 1) (vals (I c) 1)) Kt := by
  rw [k0_part11_eq_skeleton]; unfold k0_part11_skel
  simp only [Prog.lift, Prog.bind_op, Prog.bind_ret, Prog.pure_eq_ret]
  iintro ⟨#Hr, #Hl, R5, ⟨%f, P21⟩, HO, Hk⟩
  iapply (recv I κ c 5 [10, 11] (P := ptX c 3 1 fullShare (xfin I c)) sr_5 (credX mX_31) (by decide) (Entails.refl _)) $$ Hr Hl R5 HO
  iintro ⟨X31, E5, HO⟩
  iapply (load_X c (Rect.unit (s := S4x256x512) ![3, 128, 0] S1x128x512.size inb_S4x256x512_S1x128x512_3_128_0) 3 1 fullShare (xfin I c) rfl) $$ X31; iintro X31
  iapply (load_P c (Rect.unit (s := S3x2x128x512) ![2, 1, 0, 0] S1x1x128x512.size inb_S3x2x128x512_S1x1x128x512_2_1_0_0) 2 1 f rfl) $$ P21; iintro P21
  iapply (store_P I c (Rect.unit (s := S3x2x128x512) ![2, 1, 0, 0] S1x1x128x512.size inb_S3x2x128x512_S1x1x128x512_2_1_0_0) 2 1 3 rfl f rfl rfl) $$ P21; iintro P21
  rw [wp_ret]; imodintro; iapply Hk; iframe

/-- Part 12: copy 10 is started; the landing of copy 3. -/
theorem run12 (v5 : BitVec 32) (Kt : _ → sProp (MT nD τ sig Unit (Elt F) ℕ UU ℕ)) :
    iprop(recs I κ ∗ levAts L lv ∗ copyRes c 10 ∗ land (tgt c 10) 10 ∗ ptP c 2 1 (pfin I c) ∗ recvRes c 3 ∗ ow c [10, 11]
        ∗ ((sendCred c 10 ∗ ptX c 2 1 fullShare (xfin I c) ∗ recvDone c 3 ∗ ow c [11]) -∗ Kt (k0_pay17 (wqv I c) (wov I c) (keys (I c) 1) (vals (I c) 1) (ldX I c 2 1))))
      ⊢ wp frame (wpE (defs₀ (F := F)) 𝒱₀ c none) Set.univ (k0_part12 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v5 (wqv I c) (wov I c) (keys (I c) 1) (vals (I c) 1)) Kt := by
  rw [k0_part12_eq_skeleton]; unfold k0_part12_skel
  simp only [Prog.lift, Prog.bind_op, Prog.bind_ret, Prog.pure_eq_ret]
  iintro ⟨#Hr, #Hl, C10, L10, P21, R3, HO, Hk⟩
  iapply (send_P I κ c 10 [11] 2 2 1 (dia_dia c) rfl (dev13_eq c) mP_21 mR_21 ss_10 sr_10 (Entails.refl _) (Entails.refl _) (Entails.refl _)) $$ Hr P21 L10 C10 HO
  iintro ⟨D10, HO⟩
  iapply (recv I κ c 3 [11] (P := ptX c 2 1 fullShare (xfin I c)) sr_3 (credX mX_21) (by decide) (Entails.refl _)) $$ Hr Hl R3 HO
  iintro ⟨X21, E3, HO⟩
  iapply (load_X c (Rect.unit (s := S4x256x512) ![2, 128, 0] S1x128x512.size inb_S4x256x512_S1x128x512_2_128_0) 2 1 fullShare (xfin I c) rfl) $$ X21; iintro X21
  rw [wp_ret]; imodintro; iapply Hk; iframe

/-- Part 13: part (1, 1) is stored and sent; the own second half is worked on. -/
theorem run13 (v7 : BitVec 32) (Kt : _ → sProp (MT nD τ sig Unit (Elt F) ℕ UU ℕ)) :
    iprop(recs I κ ∗ levAts L lv ∗ (∃ f, ptP c 1 1 f) ∗ copyRes c 11 ∗ land (tgt c 11) 11 ∗ ptX c 0 1 (shr 0) (xfin I c) ∗ ow c [11]
        ∗ ((sendCred c 11 ∗ ptX c 0 1 (shr 0) (xfin I c) ∗ ow c []) -∗ Kt (k0_pay19 (wqv I c) (wov I c) (keys (I c) 1) (vals (I c) 1) (ldX I c 0 1))))
      ⊢ wp frame (wpE (defs₀ (F := F)) 𝒱₀ c none) Set.univ (k0_part13 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 c v7 (wqv I c) (wov I c) (keys (I c) 1) (vals (I c) 1) (k0_pay17 (wqv I c) (wov I c) (keys (I c) 1) (vals (I c) 1) (ldX I c 2 1))) Kt := by
  rw [k0_part13_eq_skeleton]; unfold k0_part13_skel
  simp only [Prog.lift, Prog.bind_op, Prog.bind_ret, Prog.pure_eq_ret]
  iintro ⟨#Hr, #Hl, ⟨%f, P11⟩, C11, L11, X01, HO, Hk⟩
  iapply (load_P c (Rect.unit (s := S3x2x128x512) ![1, 1, 0, 0] S1x1x128x512.size inb_S3x2x128x512_S1x1x128x512_1_1_0_0) 1 1 f rfl) $$ P11; iintro P11
  iapply (store_P I c (Rect.unit (s := S3x2x128x512) ![1, 1, 0, 0] S1x1x128x512.size inb_S3x2x128x512_S1x1x128x512_1_1_0_0) 1 1 2 rfl f rfl rfl) $$ P11; iintro P11
  iapply (send_P I κ c 11 [] 1 0 1 (lft_rgt c) rfl (dev14_eq c) mP_11 mR_01 ss_11 sr_11 (Entails.refl _) (Entails.refl _) (Entails.refl _)) $$ Hr P11 L11 C11 HO
  iintro ⟨D11, HO⟩
  iapply (load_X c (Rect.unit (s := S4x256x512) ![0, 128, 0] S1x128x512.size inb_S4x256x512_S1x128x512_0_128_0) 0 1 (shr 0) (xfin I c) rfl) $$ X01; iintro X01
  rw [wp_ret]; imodintro; iapply Hk; iframe

end Cert.Talk
-- ==== Proof.Last.lean ====
/-
The parts of the body that gather what the others sent and wait for the copies to have left.
-/
module

public import proofs.«01_k».proof.Proof.Names

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Dev nD → Inp F) (κ : GSem nD τ sig → ℕ) (c : Dev nD)

/-- Part 14: the landings of copies 8 and 11. -/
theorem run14 (v5 : BitVec 32) (v102 : FVec F S128x512 .bf16) (v379 : FVec F S8x128x512 .f32) (Kt : _ → sProp (MT nD τ sig Unit (Elt F) ℕ UU ℕ)) :
    iprop(recs I κ ∗ levAts L lv ∗ recvRes c 8 ∗ recvRes c 11 ∗ ow c []
        ∗ ((ptR c 0 0 (rfin I c) ∗ recvDone c 8 ∗ ptR c 0 1 (rfin I c) ∗ recvDone c 11 ∗ ow c []) -∗ Kt ⟨k0_pay20 v379, k0_pay21 v102 (ldR I c 0 0)⟩))
      ⊢ wp frame (wpE (defs₀ (F := F)) 𝒱₀ c none) Set.univ (k0_part14 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 v5 v102 v379) Kt := by
  rw [k0_part14_eq_skeleton]; unfold k0_part14_skel
  simp only [Prog.lift, Prog.bind_op, Prog.bind_ret, Prog.pure_eq_ret]
  iintro ⟨#Hr, #Hl, R8, R11, HO, Hk⟩
  iapply (recv I κ c 8 [] (P := ptR c 0 0 (rfin I c)) sr_8 (credR mR_00) (by decide) (Entails.refl _)) $$ Hr Hl R8 HO
  iintro ⟨Q00, E8, HO⟩
  iapply (load_R c (Rect.unit (s := S3x2x128x512) ![0, 0, 0, 0] S1x1x128x512.size inb_S3x2x128x512_S1x1x128x512_0_0_0_0) 0 0 (rfin I c) rfl) $$ Q00; iintro Q00
  iapply (recv I κ c 11 [] (P := ptR c 0 1 (rfin I c)) sr_11 (credR mR_01) (by decide) (Entails.refl _)) $$ Hr Hl R11 HO
  iintro ⟨Q01, E11, HO⟩
  rw [wp_ret]; imodintro; iapply Hk; iframe

/-- Part 15: the landing of copy 6. -/
theorem run15 (v5 : BitVec 32) (v383 v395 : FVec F S128x512 .f32) (Kt : _ → sProp (MT nD τ sig Unit (Elt F) ℕ UU ℕ)) :
    iprop(recs I κ ∗ levAts L lv ∗ ptR c 0 1 (rfin I c) ∗ recvRes c 6 ∗ ow c []
        ∗ ((ptR c 0 1 (rfin I c) ∗ ptR c 1 0 (rfin I c) ∗ recvDone c 6 ∗ ow c []) -∗ Kt ⟨k0_pay22 v383 (ldR I c 0 1), k0_pay23 v395 (ldR I c 1 0)⟩))
      ⊢ wp frame (wpE (defs₀ (F := F)) 𝒱₀ c none) Set.univ (k0_part15 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 v5 v383 v395) Kt := by
  rw [k0_part15_eq_skeleton]; unfold k0_part15_skel
  simp only [Prog.lift, Prog.bind_op, Prog.bind_ret, Prog.pure_eq_ret]
  iintro ⟨#Hr, #Hl, Q01, R6, HO, Hk⟩
  iapply (load_R c (Rect.unit (s := S3x2x128x512) ![0, 1, 0, 0] S1x1x128x512.size inb_S3x2x128x512_S1x1x128x512_0_1_0_0) 0 1 (rfin I c) rfl) $$ Q01; iintro Q01
  iapply (recv I κ c 6 [] (P := ptR c 1 0 (rfin I c)) sr_6 (credR mR_10) (by decide) (Entails.refl _)) $$ Hr Hl R6 HO
  iintro ⟨Q10, E6, HO⟩
  iapply (load_R c (Rect.unit (s := S3x2x128x512) ![1, 0, 0, 0] S1x1x128x512.size inb_S3x2x128x512_S1x1x128x512_1_0_0_0) 1 0 (rfin I c) rfl) $$ Q10; iintro Q10
  rw [wp_ret]; imodintro; iapply Hk; iframe

/-- Part 16: the landings of copies 7 and 9; the first half of the result is stored. -/
theorem run16 (v5 : BitVec 32) (v407 v419 : FVec F S128x512 .f32) (g : BufO (F := F)) (Kt : _ → sProp (MT nD τ sig Unit (Elt F) ℕ UU ℕ)) :
    iprop(recs I κ ∗ levAts L lv ∗ recvRes c 7 ∗ recvRes c 9 ∗ ptO c g ∗ ow c []
        ∗ ((ptR c 1 1 (rfin I c) ∗ recvDone c 7 ∗ ptR c 2 0 (rfin I c) ∗ recvDone c 9 ∗ ptO c ((a5.access (Rect.unit (s := S256x512) ![0, 0] S128x512.size inb_S256x512_S128x512_0_0)).write (Elt F) g (k0_pay25 v419 (ldR I c 2 0)) Finset.univ) ∗ ow c []) -∗ Kt (k0_pay24 v407 (ldR I c 1 1))))
      ⊢ wp frame (wpE (defs₀ (F := F)) 𝒱₀ c none) Set.univ (k0_part16 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 v5 v407 v419) Kt := by
  rw [k0_part16_eq_skeleton]; unfold k0_part16_skel
  simp only [Prog.lift, Prog.bind_op, Prog.bind_ret, Prog.pure_eq_ret]
  iintro ⟨#Hr, #Hl, R7, R9, A5, HO, Hk⟩
  iapply (recv I κ c 7 [] (P := ptR c 1 1 (rfin I c)) sr_7 (credR mR_11) (by decide) (Entails.refl _)) $$ Hr Hl R7 HO
  iintro ⟨Q11, E7, HO⟩
  iapply (load_R c (Rect.unit (s := S3x2x128x512) ![1, 1, 0, 0] S1x1x128x512.size inb_S3x2x128x512_S1x1x128x512_1_1_0_0) 1 1 (rfin I c) rfl) $$ Q11; iintro Q11
  iapply (recv I κ c 9 [] (P := ptR c 2 0 (rfin I c)) sr_9 (credR mR_20) (by decide) (Entails.refl _)) $$ Hr Hl R9 HO
  iintro ⟨Q20, E9, HO⟩
  iapply (load_R c (Rect.unit (s := S3x2x128x512) ![2, 0, 0, 0] S1x1x128x512.size inb_S3x2x128x512_S1x1x128x512_2_0_0_0) 2 0 (rfin I c) rfl) $$ Q20; iintro Q20
  iapply (load_W c a5 (Rect.unit (s := S256x512) ![0, 0] S128x512.size inb_S256x512_S128x512_0_0) g) $$ A5; iintro A5
  iapply (store_W c a5 (Rect.unit (s := S256x512) ![0, 0] S128x512.size inb_S256x512_S128x512_0_0) g) $$ A5; iintro A5
  rw [wp_ret]; imodintro; iapply Hk; iframe

/-- Part 17: the landing of copy 10; the second half of the result is stored; copies 0 and 1 have left. -/
theorem run17 (v431 : FVec F S128x512 .f32) (g : BufO (F := F)) (Kt : _ → sProp (MT nD τ sig Unit (Elt F) ℕ UU ℕ)) :
    iprop(recs I κ ∗ levAts L lv ∗ recvRes c 10 ∗ ptO c g ∗ sendPos c 0 ∗ sendCred c 0 ∗ sendPos c 1 ∗ sendCred c 1
        ∗ ow c []
        ∗ ((ptR c 2 1 (rfin I c) ∗ recvDone c 10 ∗ ptO c ((a5.access (Rect.unit (s := S256x512) ![128, 0] S128x512.size inb_S256x512_S128x512_128_0)).write (Elt F) g (k0_pay26 v431 (ldR I c 2 1)) Finset.univ) ∗ ptX c 0 0 (shr 1) (xfin I c) ∗ sendDone c 0 ∗ ptX c 0 0 (shr 2) (xfin I c)
        ∗ sendDone c 1 ∗ ow c []) -∗ Kt ⟨⟩))
      ⊢ wp frame (wpE (defs₀ (F := F)) 𝒱₀ c none) Set.univ (k0_part17 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 v431) Kt := by
  rw [k0_part17_eq_skeleton]; unfold k0_part17_skel
  simp only [Prog.lift, Prog.bind_op, Prog.bind_ret, Prog.pure_eq_ret]
  iintro ⟨#Hr, #Hl, R10, A5, G0, D0, G1, D1, HO, Hk⟩
  iapply (recv I κ c 10 [] (P := ptR c 2 1 (rfin I c)) sr_10 (credR mR_21) (by decide) (Entails.refl _)) $$ Hr Hl R10 HO
  iintro ⟨Q21, E10, HO⟩
  iapply (load_R c (Rect.unit (s := S3x2x128x512) ![2, 1, 0, 0] S1x1x128x512.size inb_S3x2x128x512_S1x1x128x512_2_1_0_0) 2 1 (rfin I c) rfl) $$ Q21; iintro Q21
  iapply (load_W c a5 (Rect.unit (s := S256x512) ![128, 0] S128x512.size inb_S256x512_S128x512_128_0) g) $$ A5; iintro A5
  iapply (store_W c a5 (Rect.unit (s := S256x512) ![128, 0] S128x512.size inb_S256x512_S128x512_128_0) g) $$ A5; iintro A5
  iapply (drain I κ c 0 (P := ptX c 0 0 (shr 1) (xfin I c)) ss_0 (credX mX_00) (Entails.refl _)) $$ Hr G0 D0 HO
  iintro ⟨S0, Z0, HO⟩
  iapply (drain I κ c 1 (P := ptX c 0 0 (shr 2) (xfin I c)) ss_1 (credX mX_00) (Entails.refl _)) $$ Hr G1 D1 HO
  iintro ⟨S1, Z1, HO⟩
  rw [wp_ret]; imodintro; iapply Hk; iframe

/-- Part 18: copies 2, 3 and 4 have left. -/
theorem run18 (Kt : _ → sProp (MT nD τ sig Unit (Elt F) ℕ UU ℕ)) :
    iprop(recs I κ ∗ levAts L lv ∗ sendPos c 2 ∗ sendCred c 2 ∗ sendPos c 3 ∗ sendCred c 3 ∗ sendPos c 4 ∗ sendCred c 4
        ∗ ow c []
        ∗ ((ptX c 0 1 (shr 1) (xfin I c) ∗ sendDone c 2 ∗ ptX c 0 1 (shr 2) (xfin I c) ∗ sendDone c 3 ∗ ptX c 0 0 (shr 3) (xfin I c) ∗ sendDone c 4
        ∗ ow c []) -∗ Kt ⟨⟩))
      ⊢ wp frame (wpE (defs₀ (F := F)) 𝒱₀ c none) Set.univ (k0_part18 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 ) Kt := by
  rw [k0_part18_eq_skeleton]; unfold k0_part18_skel
  simp only [Prog.lift, Prog.bind_op, Prog.bind_ret, Prog.pure_eq_ret]
  iintro ⟨#Hr, #Hl, G2, D2, G3, D3, G4, D4, HO, Hk⟩
  iapply (drain I κ c 2 (P := ptX c 0 1 (shr 1) (xfin I c)) ss_2 (credX mX_01) (Entails.refl _)) $$ Hr G2 D2 HO
  iintro ⟨S2, Z2, HO⟩
  iapply (drain I κ c 3 (P := ptX c 0 1 (shr 2) (xfin I c)) ss_3 (credX mX_01) (Entails.refl _)) $$ Hr G3 D3 HO
  iintro ⟨S3, Z3, HO⟩
  iapply (drain I κ c 4 (P := ptX c 0 0 (shr 3) (xfin I c)) ss_4 (credX mX_00) (Entails.refl _)) $$ Hr G4 D4 HO
  iintro ⟨S4, Z4, HO⟩
  rw [wp_ret]; imodintro; iapply Hk; iframe

/-- Part 19: copies 5, 6 and 7 have left. -/
theorem run19 (Kt : _ → sProp (MT nD τ sig Unit (Elt F) ℕ UU ℕ)) :
    iprop(recs I κ ∗ levAts L lv ∗ sendPos c 5 ∗ sendCred c 5 ∗ sendPos c 6 ∗ sendCred c 6 ∗ sendPos c 7 ∗ sendCred c 7
        ∗ ow c []
        ∗ ((ptX c 0 1 (shr 3) (xfin I c) ∗ sendDone c 5 ∗ ptP c 0 0 (pfin I c) ∗ sendDone c 6 ∗ ptP c 0 1 (pfin I c) ∗ sendDone c 7
        ∗ ow c []) -∗ Kt ⟨⟩))
      ⊢ wp frame (wpE (defs₀ (F := F)) 𝒱₀ c none) Set.univ (k0_part19 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 ) Kt := by
  rw [k0_part19_eq_skeleton]; unfold k0_part19_skel
  simp only [Prog.lift, Prog.bind_op, Prog.bind_ret, Prog.pure_eq_ret]
  iintro ⟨#Hr, #Hl, G5, D5, G6, D6, G7, D7, HO, Hk⟩
  iapply (drain I κ c 5 (P := ptX c 0 1 (shr 3) (xfin I c)) ss_5 (credX mX_01) (Entails.refl _)) $$ Hr G5 D5 HO
  iintro ⟨S5, Z5, HO⟩
  iapply (drain I κ c 6 (P := ptP c 0 0 (pfin I c)) ss_6 (credP mP_00) (Entails.refl _)) $$ Hr G6 D6 HO
  iintro ⟨P00, Z6, HO⟩
  iapply (drain I κ c 7 (P := ptP c 0 1 (pfin I c)) ss_7 (credP mP_01) (Entails.refl _)) $$ Hr G7 D7 HO
  iintro ⟨P01, Z7, HO⟩
  rw [wp_ret]; imodintro; iapply Hk; iframe

/-- Part 20: copies 8, 9 and 10 have left. -/
theorem run20 (Kt : _ → sProp (MT nD τ sig Unit (Elt F) ℕ UU ℕ)) :
    iprop(recs I κ ∗ levAts L lv ∗ sendPos c 8 ∗ sendCred c 8 ∗ sendPos c 9 ∗ sendCred c 9 ∗ sendPos c 10 ∗ sendCred c 10
        ∗ ow c []
        ∗ ((ptP c 1 0 (pfin I c) ∗ sendDone c 8 ∗ ptP c 2 0 (pfin I c) ∗ sendDone c 9 ∗ ptP c 2 1 (pfin I c) ∗ sendDone c 10
        ∗ ow c []) -∗ Kt ⟨⟩))
      ⊢ wp frame (wpE (defs₀ (F := F)) 𝒱₀ c none) Set.univ (k0_part20 (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 ) Kt := by
  rw [k0_part20_eq_skeleton]; unfold k0_part20_skel
  simp only [Prog.lift, Prog.bind_op, Prog.bind_ret, Prog.pure_eq_ret]
  iintro ⟨#Hr, #Hl, G8, D8, G9, D9, G10, D10, HO, Hk⟩
  iapply (drain I κ c 8 (P := ptP c 1 0 (pfin I c)) ss_8 (credP mP_10) (Entails.refl _)) $$ Hr G8 D8 HO
  iintro ⟨P10, Z8, HO⟩
  iapply (drain I κ c 9 (P := ptP c 2 0 (pfin I c)) ss_9 (credP mP_20) (Entails.refl _)) $$ Hr G9 D9 HO
  iintro ⟨P20, Z9, HO⟩
  iapply (drain I κ c 10 (P := ptP c 2 1 (pfin I c)) ss_10 (credP mP_21) (Entails.refl _)) $$ Hr G10 D10 HO
  iintro ⟨P21, Z10, HO⟩
  rw [wp_ret]; imodintro; iapply Hk; iframe

end Cert.Talk
-- ==== Proof.Body.lean ====
/-
The body of the kernel, run as a whole: its parts in turn, and the cells closed at the end.
-/
module

public import proofs.«01_k».proof.Proof.First
public import proofs.«01_k».proof.Proof.Middle
public import proofs.«01_k».proof.Proof.Last

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Dev nD → Inp F) (κ : GSem nD τ sig → ℕ) (c : Dev nD)

theorem bigSep12 {M : Type} [URA M] (Φ : Fin 12 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

/-- What device `c` holds for copy `k` when the body starts: what starts it, what waits for its landing and its leaving. -/
def openK (k : Fin 12) : sProp 𝕄 :=
  iprop(copyRes c k ∗ recvRes c k ∗ sendPos c k ∗ reached ER (recvCell c k) 0)
/-- What is left of it when the body ends: the two cells passed, … -/
def doneK (k : Fin 12) : sProp 𝕄 := iprop(sendDone c k ∗ recvDone c k)
/-- … and closed at zero. -/
def shutK (k : Fin 12) : sProp 𝕄 := iprop(semVal (sendCell c k) 0 ∗ semVal (recvCell c k) 0)

theorem close_bar : iprop(recs I κ ∗ atPos ER (barCell c) (0 + 1) ∅ 0) ⊢ (|={Set.univ}=> semVal (barCell c) 0 : sProp 𝕄) := by
  iintro ⟨#Hr, H⟩
  iapply (cell_close ER (talkRd I) (Set.mem_univ (κ (barCell c))) id (duties_later I _))
  isplitr
  · iapply (recs_bar I κ c); iexact Hr
  · iexact H

theorem close_copy (k : Fin 12) : iprop(recs I κ ∗ doneK c k) ⊢ (|={Set.univ}=> shutK c k : sProp 𝕄) := by
  unfold doneK shutK sendDone recvDone
  iintro ⟨#Hr, H, H'⟩
  imod (cell_close ER (talkRd I) (Set.mem_univ (κ (sendCell c k))) id (duties_later I _)) $$ [H] with HS
  · isplitr
    · iapply (recs_send I κ c k); iexact Hr
    · iexact H
  imod (cell_close ER (talkRd I) (Set.mem_univ (κ (recvCell c k))) id (duties_later I _)) $$ [H'] with HR
  · isplitr
    · iapply (recs_recv I κ c k); iexact Hr
    · iexact H'
  imodintro
  isplitl [HS]; · iexact HS
  iexact HR

/-- All the cells of device `c` closed. -/
theorem close_all : iprop(recs I κ ∗ atPos ER (barCell c) (0 + 1) ∅ 0 ∗ bigSep Finset.univ (doneK (F := F) c))
    ⊢ (|={Set.univ}=> (semVal (barCell c) 0 ∗ bigSep Finset.univ (shutK (F := F) c)) : sProp 𝕄) := by
  rw [bigSep12, bigSep12]
  iintro ⟨#Hr, HB, D0, D1, D2, D3, D4, D5, D6, D7, D8, D9, D10, D11⟩
  imod (close_bar I κ c) $$ [HB] with HB
  · isplitr
    · iexact Hr
    · iexact HB
  imod (close_copy I κ c 0) $$ [D0] with D0
  · isplitr
    · iexact Hr
    · iexact D0
  imod (close_copy I κ c 1) $$ [D1] with D1
  · isplitr
    · iexact Hr
    · iexact D1
  imod (close_copy I κ c 2) $$ [D2] with D2
  · isplitr
    · iexact Hr
    · iexact D2
  imod (close_copy I κ c 3) $$ [D3] with D3
  · isplitr
    · iexact Hr
    · iexact D3
  imod (close_copy I κ c 4) $$ [D4] with D4
  · isplitr
    · iexact Hr
    · iexact D4
  imod (close_copy I κ c 5) $$ [D5] with D5
  · isplitr
    · iexact Hr
    · iexact D5
  imod (close_copy I κ c 6) $$ [D6] with D6
  · isplitr
    · iexact Hr
    · iexact D6
  imod (close_copy I κ c 7) $$ [D7] with D7
  · isplitr
    · iexact Hr
    · iexact D7
  imod (close_copy I κ c 8) $$ [D8] with D8
  · isplitr
    · iexact Hr
    · iexact D8
  imod (close_copy I κ c 9) $$ [D9] with D9
  · isplitr
    · iexact Hr
    · iexact D9
  imod (close_copy I κ c 10) $$ [D10] with D10
  · isplitr
    · iexact Hr
    · iexact D10
  imod (close_copy I κ c 11) $$ [D11] with D11
  · isplitr
    · iexact Hr
    · iexact D11
  imodintro; iframe

/-- The two stores of the result leave the block named. -/
theorem out_stored (g : BufO (F := F)) :
    (a5.access (Rect.unit (s := S256x512) ![128, 0] S128x512.size inb_S256x512_S128x512_128_0)).write (Elt F)
      ((a5.access (Rect.unit (s := S256x512) ![0, 0] S128x512.size inb_S256x512_S128x512_0_0)).write (Elt F) g (out0 I c) Finset.univ) (out1 I c) Finset.univ
      = outv I c := by
  refine funext fun i => ?_
  have hi0 : ((i : S256x512.Idx) 0).val < 256 := ((i : S256x512.Idx) 0).isLt
  by_cases h : ((i : S256x512.Idx) 0).val < 128
  · have hn : i ∉ (a5.access (Rect.unit (s := S256x512) ![128, 0] S128x512.size inb_S256x512_S128x512_128_0)).setOn Finset.univ := by
      intro hm
      obtain ⟨x, -, hx⟩ := Finset.mem_map.mp hm
      have : ((i : S256x512.Idx) 0).val = 128 + 1 * (x 0).val := (congrArg (fun z : S256x512.Idx => (z 0).val) hx).symm
      omega
    rw [View.write_of_not_mem _ _ _ hn]
    obtain ⟨x, hx⟩ : ∃ x : S128x512.Idx, x = (fun a => match a with | 0 => (⟨((i : S256x512.Idx) 0).val, h⟩ : Fin 128) | 1 => (i : S256x512.Idx) 1) := ⟨_, rfl⟩
    have e : outv I c i = out0 I c x := by
      subst hx
      unfold outv
      exact dif_pos h
    have he : i = (a5.access (Rect.unit (s := S256x512) ![0, 0] S128x512.size inb_S256x512_S128x512_0_0)).emb x := by
      subst hx
      refine funext fun a => Fin.ext ?_
      fin_cases a
      · show ((i : S256x512.Idx) 0).val = 0 + 1 * ((i : S256x512.Idx) 0).val
        omega
      · show ((i : S256x512.Idx) 1).val = 0 + 1 * ((i : S256x512.Idx) 1).val
        omega
    rw [e, he, View.write_emb_of_mem _ _ (Finset.mem_univ x)]
    rfl
  · obtain ⟨x, hx⟩ : ∃ x : S128x512.Idx, x = (fun a => match a with | 0 => (⟨((i : S256x512.Idx) 0).val - 128, by omega⟩ : Fin 128) | 1 => (i : S256x512.Idx) 1) := ⟨_, rfl⟩
    have e : outv I c i = out1 I c x := by
      subst hx
      unfold outv
      exact dif_neg h
    have he : i = (a5.access (Rect.unit (s := S256x512) ![128, 0] S128x512.size inb_S256x512_S128x512_128_0)).emb x := by
      subst hx
      refine funext fun a => Fin.ext ?_
      fin_cases a
      · show ((i : S256x512.Idx) 0).val = 128 + 1 * (((i : S256x512.Idx) 0).val - 128)
        omega
      · show ((i : S256x512.Idx) 1).val = 0 + 1 * ((i : S256x512.Idx) 1).val
        omega
    rw [e, he, View.write_emb_of_mem _ _ (Finset.mem_univ x)]
    rfl

set_option maxHeartbeats 4000000 in
set_option maxRecDepth 8192 in
/-- The body on device `c`: the windows read as `I c` says, the result is the block named, every cell is back at zero, nothing is owed. -/
theorem run_body (g0 : Buf (Elt F) (a0.view.loc (c : Thread nD τ))) (g1 : Buf (Elt F) (a1.view.loc (c : Thread nD τ))) (g2 : Buf (Elt F) (a2.view.loc (c : Thread nD τ)))
    (g3 : Buf (Elt F) (a3.view.loc (c : Thread nD τ))) (g4 : Buf (Elt F) (a4.view.loc (c : Thread nD τ))) (g5 : BufO (F := F)) (hI : Reads I c g0 g1 g2 g3 g4)
    (fx : BufX (F := F)) (fp : BufP (F := F)) (fr : BufR (F := F)) (Q : PUnit → sProp (MT nD τ sig Unit (Elt F) ℕ UU ℕ)) :
    iprop(recs I κ ∗ levAts L lv ∗ ptW c a0 g0 ∗ ptW c a1 g1 ∗ ptW c a2 g2 ∗ ptW c a3 g3 ∗ ptW c a4 g4 ∗ ptO c g5
        ∗ (((c : Thread nD τ).loc cc0_scratch0) ↦{fullShare} fx) ∗ (((c : Thread nD τ).loc cc0_scratch1) ↦{fullShare} fp) ∗ (((c : Thread nD τ).loc cc0_scratch2) ↦{fullShare} fr)
        ∗ barRes c ∗ bigSep Finset.univ (openK (F := F) c) ∗ (∃ W, owes (c : Thread nD τ) (O₀ c) W)
        ∗ ((ptW c a0 g0 ∗ ptW c a1 g1 ∗ ptW c a2 g2 ∗ ptW c a3 g3 ∗ ptW c a4 g4 ∗ ptO c (outv I c)
          ∗ (((c : Thread nD τ).loc cc0_scratch0) ↦{fullShare} xfin I c) ∗ (((c : Thread nD τ).loc cc0_scratch1) ↦{fullShare} pfin I c) ∗ (((c : Thread nD τ).loc cc0_scratch2) ↦{fullShare} rfin I c)
          ∗ semVal (barCell c) 0 ∗ bigSep Finset.univ (shutK (F := F) c) ∗ ow c []) -∗ Q ⟨⟩))
      ⊢ wp frame (wpE (defs₀ (F := F)) 𝒱₀ c none) Set.univ (cc0_body (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6) Q := by
  rw [cc0_body_eq_skeleton]; unfold cc0_body_skel
  rw [splitX c fx, splitP c fp, splitR c fr, splitX c (xfin I c), splitP c (pfin I c), splitR c (rfin I c), bigSep12 (openK (F := F) c)]
  unfold openK
  iintro ⟨#Hr, #Hl, A0, A1, A2, A3, A4, A5, ⟨X00, X01, X10, X11, X20, X21, X30, X31⟩, ⟨P00, P01, P10, P11, P20, P21⟩, ⟨Q00, Q01, Q10, Q11, Q20, Q21⟩, HB, ⟨⟨C0, R0, G0, #W0⟩, ⟨C1, R1, G1, #W1⟩, ⟨C2, R2, G2, #W2⟩, ⟨C3, R3, G3, #W3⟩, ⟨C4, R4, G4, #W4⟩, ⟨C5, R5, G5, #W5⟩, ⟨C6, R6, G6, #W6⟩, ⟨C7, R7, G7, #W7⟩, ⟨C8, R8, G8, #W8⟩, ⟨C9, R9, G9, #W9⟩, ⟨C10, R10, G10, #W10⟩, ⟨C11, R11, G11, #W11⟩⟩, HO, Hk⟩
  ihave N0 : land c 0 $$ [X10]
  · dsimp only [land]
    isplitl [X10]
    · iexists fx; iexact X10
    · iexact W0
  ihave N1 : land c 1 $$ [X20]
  · dsimp only [land]
    isplitl [X20]
    · iexists fx; iexact X20
    · iexact W1
  ihave N2 : land c 2 $$ [X11]
  · dsimp only [land]
    isplitl [X11]
    · iexists fx; iexact X11
    · iexact W2
  ihave N3 : land c 3 $$ [X21]
  · dsimp only [land]
    isplitl [X21]
    · iexists fx; iexact X21
    · iexact W3
  ihave N4 : land c 4 $$ [X30]
  · dsimp only [land]
    isplitl [X30]
    · iexists fx; iexact X30
    · iexact W4
  ihave N5 : land c 5 $$ [X31]
  · dsimp only [land]
    isplitl [X31]
    · iexists fx; iexact X31
    · iexact W5
  ihave N6 : land c 6 $$ [Q10]
  · dsimp only [land]
    isplitl [Q10]
    · iexists fr; iexact Q10
    · iexact W6
  ihave N7 : land c 7 $$ [Q11]
  · dsimp only [land]
    isplitl [Q11]
    · iexists fr; iexact Q11
    · iexact W7
  ihave N8 : land c 8 $$ [Q00]
  · dsimp only [land]
    isplitl [Q00]
    · iexists fr; iexact Q00
    · iexact W8
  ihave N9 : land c 9 $$ [Q20]
  · dsimp only [land]
    isplitl [Q20]
    · iexists fr; iexact Q20
    · iexact W9
  ihave N10 : land c 10 $$ [Q21]
  · dsimp only [land]
    isplitl [Q21]
    · iexists fr; iexact Q21
    · iexact W10
  ihave N11 : land c 11 $$ [Q01]
  · dsimp only [land]
    isplitl [Q01]
    · iexists fr; iexact Q01
    · iexact W11
  ihave HL : lands c $$ [N0 N1 N2 N3 N4 N5 N6 N7 N8 N9 N10 N11]
  · unfold lands diaLand; iframe
  ihave X0 := (slot0_split c fx).2 $$ [X00 X01]
  · iframe
  rw [wp_bind]
  iapply (run1 I κ c g0 g1 g2 hI.x hI.wq hI.wo fx _)
  iframe Hr Hl A0 A1 A2 X0 HB HL HO
  iintro %v5 %v7 %v9 ⟨A0, A1, A2, X00, X01, HbL, HbR, ZB, HO⟩
  ihave ⟨N1, N3, N6, N7, HdL⟩ := (Entails.of_eq (show barL (F := F) c = iprop(land (tgt c 1) 1 ∗ land (tgt c 3) 3 ∗ land (tgt c 6) 6 ∗ land (tgt c 7) 7 ∗ diaLand (lft c)) from rfl)) $$ HbL
  ihave ⟨N0, N2, N8, N11⟩ := (Entails.of_eq (show barR (F := F) c = iprop(land (tgt c 0) 0 ∗ land (tgt c 2) 2 ∗ land (tgt c 8) 8 ∗ land (tgt c 11) 11) from rfl)) $$ HbR
  ihave ⟨⟨K0, S0⟩, S1, S4⟩ := (share4 c 0 (xfin I c)).1 $$ X00
  ihave ⟨⟨K1, S2⟩, S3, S5⟩ := (share4 c 1 (xfin I c)).1 $$ X01
  ihave E00 : iprop(∃ f, ptP (F := F) c 0 0 f) $$ [P00]
  · iexists fp; iexact P00
  ihave E01 : iprop(∃ f, ptP (F := F) c 0 1 f) $$ [P01]
  · iexists fp; iexact P01
  ihave E10 : iprop(∃ f, ptP (F := F) c 1 0 f) $$ [P10]
  · iexists fp; iexact P10
  ihave E11 : iprop(∃ f, ptP (F := F) c 1 1 f) $$ [P11]
  · iexists fp; iexact P11
  ihave E20 : iprop(∃ f, ptP (F := F) c 2 0 f) $$ [P20]
  · iexists fp; iexact P20
  ihave E21 : iprop(∃ f, ptP (F := F) c 2 1 f) $$ [P21]
  · iexists fp; iexact P21
  dsimp -failIfUnchanged only
  rw [wp_bind]
  iapply (run2 I κ c v5 v7 g3 g4 hI.k0 hI.k1 hI.v0 hI.v1 _)
  iframe Hr Hl A3 A4 S0 N0 HdL C0 HO
  iintro ⟨A3, A4, D0, HO⟩
  dsimp -failIfUnchanged only
  rw [wp_bind]
  iapply (run3 I κ c _ _ _ _)
  iframe Hr Hl C1 N1 S1 C2 N2 S2 HO
  iintro ⟨D1, D2, HO⟩
  dsimp -failIfUnchanged only
  rw [wp_bind]
  iapply (run4 I κ c _ _ _)
  iframe Hr Hl C3 N3 S3 K0 R0 HO
  iintro ⟨D3, K0, HdL, X10, E0, HO⟩
  ihave ⟨N4, N5, N9, N10⟩ := (Entails.of_eq (show diaLand (F := F) (dia c) = iprop(land (tgt c 4) 4 ∗ land (tgt c 5) 5 ∗ land (tgt c 9) 9 ∗ land (tgt c 10) 10) from rfl)) $$ HdL
  dsimp -failIfUnchanged only
  rw [wp_bind]
  iapply (run5 I κ c _ _ _ _)
  iframe Hr Hl C4 N4 S4 C5 N5 S5 X10 HO
  iintro ⟨D4, D5, X10, HO⟩
  dsimp -failIfUnchanged only
  rw [wp_bind]
  iapply (run6 I κ c _ _)
  iframe Hr Hl E00 C6 N6 R2 HO
  iintro ⟨D6, X11, E2, HO⟩
  dsimp -failIfUnchanged only
  rw [wp_bind]
  iapply (run7 I κ c _ _)
  iframe Hr Hl X11 E01
  iintro ⟨X11, P01⟩
  dsimp -failIfUnchanged only
  rw [wp_bind]
  iapply (run8 I κ c _ _)
  iframe Hr Hl C7 N7 P01 R1 E10 HO
  iintro ⟨D7, X20, E1, P10, HO⟩
  dsimp -failIfUnchanged only
  rw [wp_bind]
  iapply (run9 I κ c _ _ _)
  iframe Hr Hl C8 N8 P10 R4 HO
  iintro ⟨D8, X30, E4, HO⟩
  dsimp -failIfUnchanged only
  rw [wp_bind]
  iapply (run10 I κ c _ _)
  iframe Hr Hl E20 C9 N9 HO
  iintro ⟨D9, HO⟩
  dsimp -failIfUnchanged only
  rw [wp_bind]
  iapply (run11 I κ c _ _)
  iframe Hr Hl R5 E21 HO
  iintro ⟨X31, E5, P21, HO⟩
  dsimp -failIfUnchanged only
  rw [wp_bind]
  iapply (run12 I κ c _ _)
  iframe Hr Hl C10 N10 P21 R3 HO
  iintro ⟨D10, X21, E3, HO⟩
  dsimp -failIfUnchanged only
  rw [wp_bind]
  iapply (run13 I κ c _ _)
  iframe Hr Hl E11 C11 N11 K1 HO
  iintro ⟨D11, K1, HO⟩
  dsimp -failIfUnchanged only
  rw [wp_bind]
  iapply (run14 I κ c _ _ _ _)
  iframe Hr Hl R8 R11 HO
  iintro ⟨Q00, E8, Q01, E11, HO⟩
  dsimp -failIfUnchanged only
  rw [wp_bind]
  iapply (run15 I κ c _ _ _ _)
  iframe Hr Hl Q01 R6 HO
  iintro ⟨Q01, Q10, E6, HO⟩
  dsimp -failIfUnchanged only
  rw [wp_bind]
  iapply (run16 I κ c _ _ _ g5 _)
  iframe Hr Hl R7 R9 A5 HO
  iintro ⟨Q11, E7, Q20, E9, A5, HO⟩
  dsimp -failIfUnchanged only
  rw [wp_bind]
  iapply (run17 I κ c _ _ _)
  iframe Hr Hl R10 A5 G0 D0 G1 D1 HO
  iintro ⟨Q21, E10, A5, S0, Z0, S1, Z1, HO⟩
  dsimp -failIfUnchanged only
  rw [wp_bind]
  iapply (run18 I κ c _)
  iframe Hr Hl G2 D2 G3 D3 G4 D4 HO
  iintro ⟨S2, Z2, S3, Z3, S4, Z4, HO⟩
  dsimp -failIfUnchanged only
  rw [wp_bind]
  iapply (run19 I κ c _)
  iframe Hr Hl G5 D5 G6 D6 G7 D7 HO
  iintro ⟨S5, Z5, P00, Z6, P01, Z7, HO⟩
  dsimp -failIfUnchanged only
  rw [wp_bind]
  iapply (run20 I κ c _)
  iframe Hr Hl G8 D8 G9 D9 G10 D10 HO
  iintro ⟨P10, Z8, P20, Z9, P21, Z10, HO⟩
  simp only [Prog.lift, Prog.bind_op, Prog.bind_ret, Prog.pure_eq_ret]
  iapply (drain I κ c 11 (P := ptP c 1 1 (pfin I c)) ss_11 (credP mP_11) (Entails.refl _)) $$ Hr G11 D11 HO
  iintro ⟨P11, Z11, HO⟩
  rw [wp_ret]
  imod (close_all I κ c) $$ [ZB Z0 E0 Z1 E1 Z2 E2 Z3 E3 Z4 E4 Z5 E5 Z6 E6 Z7 E7 Z8 E8 Z9 E9 Z10 E10 Z11 E11] with ⟨ZB, ZK⟩
  · rw [bigSep12]; unfold doneK
    iframe
    iexact Hr
  ihave X00 := (share4 c 0 (xfin I c)).2 $$ [K0 S0 S1 S4]
  · iframe
  ihave X01 := (share4 c 1 (xfin I c)).2 $$ [K1 S2 S3 S5]
  · iframe
  imodintro
  iapply Hk
  rw [← out_stored I c g5]
  unfold out0 out1
  iframe

end Cert.Talk
-- ==== Proof.Region.lean ====
/-
The kernel's region: what its windows hold, what enters the body and what leaves it, and the region as a segment of the program.
-/
module

public import proofs.«01_k».proof.Proof.Body
public import proofs.«01_k».proof.Proof.Gen.KernelIdeal.Points
public import proofs.«01_k».proof.Proof.Gen.KernelIdeal.Regions
public import Idealize.ShloMosaic.Lib.Pipeline.ValueKit

@[expose] public section

noncomputable section

namespace Cert.Talk

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (c : Dev nD)

/-! ## What the windows hold -/

/-- The five staged inputs of device `c`. -/
def st0 : (cc0_stg0_0 : Ref sig .tc).ty.Contents (Elt F) := (win0_0.blk t0_0).view.read (Elt F) (V1 m c main_v19)
def st1 : (cc0_stg1_0 : Ref sig .tc).ty.Contents (Elt F) := (win0_1.blk t0_0).view.read (Elt F) (V1 m c main_arg1)
def st2 : (cc0_stg2_0 : Ref sig .tc).ty.Contents (Elt F) := (win0_2.blk t0_0).view.read (Elt F) (V1 m c main_arg4)
def st3 : (cc0_stg3_0 : Ref sig .tc).ty.Contents (Elt F) := (win0_3.blk t0_0).view.read (Elt F) (V1 m c main_v16)
def st4 : (cc0_stg4_0 : Ref sig .tc).ty.Contents (Elt F) := (win0_4.blk t0_0).view.read (Elt F) (V1 m c main_v18)

/-- What the body of device `c` loads. -/
def inp : Inp F where
  x := (a0.access (Rect.unit (s := S256x512) ![0, 0] S256x512.size inb_S256x512_S256x512_0_0)).read (Elt F) (st0 m c)
  wq := (a1.access (Rect.unit (s := S512x512) ![0, 0] S512x512.size inb_S512x512_S512x512_0_0)).read (Elt F) (st1 m c)
  wo := (a2.access (Rect.unit (s := S512x512) ![0, 0] S512x512.size inb_S512x512_S512x512_0_0)).read (Elt F) (st2 m c)
  k := fun
    | 0 => (a3.access (Rect.unit (s := S16x128x64) ![0, 0, 0] S8x128x64.size inb_S16x128x64_S8x128x64_0_0_0)).read (Elt F) (st3 m c)
    | 1 => (a3.access (Rect.unit (s := S16x128x64) ![8, 0, 0] S8x128x64.size inb_S16x128x64_S8x128x64_8_0_0)).read (Elt F) (st3 m c)
  v := fun
    | 0 => (a4.access (Rect.unit (s := S16x128x64) ![0, 0, 0] S8x128x64.size inb_S16x128x64_S8x128x64_0_0_0)).read (Elt F) (st4 m c)
    | 1 => (a4.access (Rect.unit (s := S16x128x64) ![8, 0, 0] S8x128x64.size inb_S16x128x64_S8x128x64_8_0_0)).read (Elt F) (st4 m c)

theorem inp_reads : Reads (inp m) c (st0 m c) (st1 m c) (st2 m c) (st3 m c) (st4 m c) := ⟨rfl, rfl, rfl, rfl, rfl, rfl, rfl⟩

/-! ## What enters the body and what leaves it -/

/-- What device `c` holds for copy `k` before its two cells are opened. -/
def shutIn (k : Fin 12) : sProp 𝕄 :=
  iprop(openTok ER (sendCell c k) ∗ openTok ER (recvCell c k) ∗ dutyTok ER (sendCell c k) 0 false ∗ dutyTok ER (recvCell (tgt c k) k) 0 false
    ∗ cred (tallyAt (recvCell c k) () N))

/-- The handshake's resources and the twelve copies', the cells still shut. -/
def Tk : sProp 𝕄 := iprop((∃ κ, recs (inp m) κ) ∗ barRes c ∗ bigSep Finset.univ (shutIn (F := F) c))
/-- The same, the cells open. -/
def Xk : sProp 𝕄 := iprop((∃ κ, recs (inp m) κ) ∗ barRes c ∗ bigSep Finset.univ (openK (F := F) c) ∗ levAts L lv)
def Yk : sProp 𝕄 := semVal (barCell c) 0

/-- The kernel's own semaphores. -/
abbrev osem : Fin 12 × Fin 2 → SemLoc sig := fun p => match p.2 with | 0 => .dma (sendS p.1) | 1 => .dma (recvS p.1)

theorem ownSems_eq : (Pipeline.ownSems0 osem c : sProp 𝕄) = bigSep Finset.univ (shutK (F := F) c) := by
  unfold Pipeline.ownSems0
  rw [bigSep_univ_prod]
  exact bigSep_congr fun k _ => BI.bigSep_fin_two (fun i : Fin 2 => (semVal ((c : Thread nD τ), osem (k, i)) 0 : sProp 𝕄))

/-- An update at every member of a family, under a persistent fact. -/
theorem bigSep_open {X : Type} [DecidableEq X] {R : sProp 𝕄} [BI.Persistent R] {Φ Ψ : X → sProp 𝕄}
    (h : ∀ i, iprop(R ∗ Φ i) ⊢ (|={Set.univ}=> Ψ i : sProp 𝕄)) (s : Finset X) : iprop(R ∗ bigSep s Φ) ⊢ (|={Set.univ}=> bigSep s Ψ : sProp 𝕄) := by
  induction s using Finset.induction_on with
  | empty =>
    rw [BI.bigSep_empty, BI.bigSep_empty]
    iintro ⟨-, H⟩; imodintro; iexact H
  | insert a s ha ih =>
    rw [show bigSep (insert a s) Φ = iprop(Φ a ∗ bigSep s Φ) from BI.bigSep_insert ha, show bigSep (insert a s) Ψ = iprop(Ψ a ∗ bigSep s Ψ) from BI.bigSep_insert ha]
    iintro ⟨#HR, HA, HS⟩
    imod (h a) $$ [HA] with HA
    · isplitr; · iexact HR
      iexact HA
    imod ih $$ [HS] with HS
    · isplitr; · iexact HR
      iexact HS
    imodintro
    isplitl [HA]; · iexact HA
    iexact HS

theorem open_copy (I : Dev nD → Inp F) (κ : GSem nD τ sig → ℕ) (k : Fin 12) :
    iprop(recs I κ ∗ (shutIn c k ∗ shutK c k)) ⊢ (|={Set.univ}=> openK c k : sProp 𝕄) := by
  unfold shutIn shutK openK copyRes recvRes sendPos
  iintro ⟨#Hr, ⟨OS, OR, TS, TR, CR⟩, ZS, ZR⟩
  imod (cell_open ER (talkRd I) (g := sendCell c k) (Set.mem_univ (κ (sendCell c k)))) $$ [OS ZS] with ⟨PS, #RS⟩
  · isplitr
    · iapply (recs_send I κ c k); iexact Hr
    isplitl [OS]; · iexact OS
    iexact ZS
  imod (cell_open ER (talkRd I) (g := recvCell c k) (Set.mem_univ (κ (recvCell c k)))) $$ [OR ZR] with ⟨PR, #RR⟩
  · isplitr
    · iapply (recs_recv I κ c k); iexact Hr
    isplitl [OR]; · iexact OR
    iexact ZR
  imodintro
  isplitl [TS TR]
  · isplitl [TS]; · iexact TS
    isplitr; · iexact RS
    iexact TR
  isplitl [CR PR]
  · isplitl [CR]; · iexact CR
    iexact PR
  isplitl [PS]; · iexact PS
  iexact RR

theorem hopen : iprop(Tk m c ∗ Pipeline.ownSems0 osem c ∗ levAts L lv) ⊢ (|={Set.univ}=> Xk m c : sProp 𝕄) := by
  rw [ownSems_eq]
  unfold Tk Xk
  iintro ⟨⟨⟨%κ, #Hr⟩, HB, HK⟩, HZ, #Hl⟩
  ihave H := (Entails.of_eq (bigSep_sep' Finset.univ (shutIn (F := F) c) (shutK (F := F) c)).symm) $$ [HK HZ]
  · isplitl [HK]; · iexact HK
    iexact HZ
  imod (bigSep_open (R := recs (inp m) κ) (open_copy c (inp m) κ) Finset.univ) $$ [H] with H
  · isplitr; · iexact Hr
    iexact H
  imodintro
  isplitr; · iexists κ; iexact Hr
  isplitl [HB]; · iexact HB
  isplitl [H]; · iexact H
  iexact Hl

/-- The three scratch buffers at any contents. -/
def scr : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

def ΦIn : sProp 𝕄 := iprop(Xk m c ∗ scr c ∗ ∃ r, prngReg c r)
def ΦOut : sProp 𝕄 := iprop(Yk c ∗ bigSep Finset.univ (shutK (F := F) c) ∗ scr c ∗ ∃ r, prngReg c r)

/-- The region: the arrays it finds, the windows after the body, the resources before and after, what is owed. -/
def dat : Dat τ (Elt F) Unit ℕ UU ℕ cfg0 c where
  A w := V1 m c (Proc.devRef .tc (Pipeline.arrRef spec0 w))
  after w _ := match w with
    | ⟨0, _⟩ => st0 m c
    | ⟨1, _⟩ => st1 m c
    | ⟨2, _⟩ => st2 m c
    | ⟨3, _⟩ => st3 m c
    | ⟨4, _⟩ => st4 m c
    | ⟨5, _⟩ => outv (inp m) c
  Φ t := if t.val = 0 then ΦIn m c else ΦOut c
  q _ := fullShare
  owed t := if t.val = 0 then O₀ c else 0

abbrev pdats : (p : Fin 1) → (c : Dev nD) → Dat τ (Elt F) Unit ℕ UU ℕ (cfgs p) c := fun _ c => dat m c

theorem owed_first : (dat m c).owed (0 : Fin (cfg0.N + 1)) = O₀ c := by
  show (if (0 : Fin (cfg0.N + 1)).val = 0 then O₀ c else 0) = O₀ c
  exact if_pos rfl
theorem owed_last : (dat m c).owed (Fin.last cfg0.N) = 0 := by
  show (if (Fin.last cfg0.N).val = 0 then O₀ c else 0) = 0
  rw [Fin.val_last, if_neg (by rw [show cfg0.N = 1 from N_0]; decide)]
theorem Φ_first : (dat m c).Φ (0 : Fin (cfg0.N + 1)) = ΦIn m c := by
  show (if (0 : Fin (cfg0.N + 1)).val = 0 then ΦIn m c else ΦOut c) = ΦIn m c
  exact if_pos rfl
theorem Φ_last : (dat m c).Φ (Fin.last cfg0.N) = ΦOut c := by
  show (if (Fin.last cfg0.N).val = 0 then ΦIn m c else ΦOut c) = ΦOut c
  rw [Fin.val_last, if_neg (by rw [show cfg0.N = 1 from N_0]; decide)]

theorem owes_in (dt : Dat τ (Elt F) Unit ℕ UU ℕ cfg0 c) (t : Fin (cfg0.N + 1)) (O : CellTallies nD τ sig Unit) (h : dt.owed t = O)
    (hr : dt.recorded t = Set.univ) : (iprop(∃ W, owes (c : Thread nD τ) O W) : sProp 𝕄) ⊢ (dt.owesAt () t : sProp 𝕄) := by
  unfold Dat.owesAt Pipeline.owesWithin Dat.bound; rw [h, hr]
  iintro ⟨%W, HO⟩; iexists W
  isplitr; · ipureintro; exact fun _ _ => Or.inl trivial
  iexact HO
theorem owes_out (dt : Dat τ (Elt F) Unit ℕ UU ℕ cfg0 c) (t : Fin (cfg0.N + 1)) (O : CellTallies nD τ sig Unit) (h : dt.owed t = O) :
    (dt.owesAt () t : sProp 𝕄) ⊢ iprop(∃ W, owes (c : Thread nD τ) O W) := by
  unfold Dat.owesAt Pipeline.owesWithin; rw [h]
  iintro ⟨%W, -, HO⟩; iexists W; iexact HO

/-- A whole buffer at contents `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_0 (d) : (dat m c).before (0 : Fin 6) t0_0 d = st0 m c := by unfold Dat.before; rw [if_pos (fetch0_0 t0_0)]; rfl
theorem before_1 (d) : (dat m c).before (1 : Fin 6) t0_0 d = st1 m c := by unfold Dat.before; rw [if_pos (fetch0_1 t0_0)]; rfl
theorem before_2 (d) : (dat m c).before (2 : Fin 6) t0_0 d = st2 m c := by unfold Dat.before; rw [if_pos (fetch0_2 t0_0)]; rfl
theorem before_3 (d) : (dat m c).before (3 : Fin 6) t0_0 d = st3 m c := by unfold Dat.before; rw [if_pos (fetch0_3 t0_0)]; rfl
theorem before_4 (d) : (dat m c).before (4 : Fin 6) t0_0 d = st4 m c := by unfold Dat.before; rw [if_pos (fetch0_4 t0_0)]; rfl

def bodyPre : sProp 𝕄 :=
  iprop(ΦIn m c ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))
def bodyPost : sProp 𝕄 :=
  iprop(ΦOut c ∗ (dat m c).owesAt () t0_0.succ
    ∗ stg c cc0_stg0_0 (st0 m c) ∗ stg c cc0_stg1_0 (st1 m c) ∗ stg c cc0_stg2_0 (st2 m c) ∗ stg c cc0_stg3_0 (st3 m c) ∗ stg c cc0_stg4_0 (st4 m c)
    ∗ stg c cc0_stg5_0 (outv (inp m) c))

set_option maxHeartbeats 1000000 in
/-- The body from what the region hands it to what it hands back. -/
theorem body_sound : bodyPre m c
    ⊢ wp frame (wpE (defs₀ (F := F)) 𝒱₀ c none) Set.univ (cc0_body (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6) (fun _ => bodyPost m c) := by
  unfold bodyPre ΦIn Xk scr
  iintro ⟨⟨⟨⟨%κ, #Hr⟩, HB, HK, #Hl⟩, ⟨⟨%fx, SX⟩, ⟨%fp, SP⟩, ⟨%fr, SR⟩⟩, Hp⟩, HO, ⟨%d0, %g0, %h0, A0⟩, ⟨%d1, %g1, %h1, A1⟩, ⟨%d2, %g2, %h2, A2⟩, ⟨%d3, %g3, %h3, A3⟩, ⟨%d4, %g4, %h4, A4⟩, ⟨%d5, %g5, %h5, A5⟩⟩
  rw [before_0] at h0; rw [before_1] at h1; rw [before_2] at h2; rw [before_3] at h3; rw [before_4] at h4
  subst h0; subst h1; subst h2; subst h3; subst h4
  ihave HO := (owes_out c (dat m c) t0_0.castSucc (O₀ c) (owed_first m c)) $$ HO
  iapply (run_body (inp m) κ c (st0 m c) (st1 m c) (st2 m c) (st3 m c) (st4 m c) g5 (inp_reads m c) fx fp fr (fun _ => bodyPost m c))
  isplitr; · iexact Hr
  isplitr; · iexact Hl
  isplitl [A0]; · iexact A0
  isplitl [A1]; · iexact A1
  isplitl [A2]; · iexact A2
  isplitl [A3]; · iexact A3
  isplitl [A4]; · iexact A4
  isplitl [A5]; · iexact A5
  isplitl [SX]; · iexact SX
  isplitl [SP]; · iexact SP
  isplitl [SR]; · iexact SR
  isplitl [HB]; · iexact HB
  isplitl [HK]; · iexact HK
  isplitl [HO]; · iexact HO
  iintro ⟨A0, A1, A2, A3, A4, A5, SX, SP, SR, ZB, ZK, HO⟩
  ihave HO := (Entails.of_eq (show (ow c [] : sProp 𝕄) = iprop(∃ W, owes (c : Thread nD τ) (0 : CellTallies nD τ sig Unit) W) from rfl)) $$ HO
  unfold bodyPost ΦOut Yk scr
  isplitl [SX SP SR ZB ZK Hp]
  · isplitl [ZB]; · iexact ZB
    isplitl [ZK]; · iexact ZK
    isplitl [SX SP SR]
    · isplitl [SX]; · iexists _; iexact SX
      isplitl [SP]; · iexists _; iexact SP
      iexists _; iexact SR
    iexact Hp
  isplitl [HO]
  · iapply (owes_in c (dat m c) t0_0.succ 0 (owed_last m c) rfl)
    iexact HO
  isplitl [A0]
  · iexists _; isplitr; · (ipureintro; rfl)
    iexact A0
  isplitl [A1]
  · iexists _; isplitr; · (ipureintro; rfl)
    iexact A1
  isplitl [A2]
  · iexists _; isplitr; · (ipureintro; rfl)
    iexact A2
  isplitl [A3]
  · iexists _; isplitr; · (ipureintro; rfl)
    iexact A3
  isplitl [A4]
  · iexists _; isplitr; · (ipureintro; rfl)
    iexact A4
  iexists _; isplitr; · (ipureintro; rfl)
  iexact A5

set_option maxRecDepth 4000 in
theorem body_obligation : BodyObligation (dat m c) (defs₀ (F := F)) 𝒱₀ () Set.univ := fun t => by
  rw [fin_N0 t]
  rw [bigSep_W0, bigSep_W0]
  simp only [owns_stg]
  rw [show (dat m c).Φ t0_0.castSucc = ΦIn m c from Φ_first m c, show (dat m c).Φ t0_0.succ = ΦOut c from Φ_last m c]
  rw [show defs₀ (F := F) Proc.tc 0 (t0_0, cfg0.slots t0_0) = bodyAt0 (F := F) t0_0 from rfl,
    show bodyAt0 (F := F) t0_0 = cc0_body (F := F) a0 (Memref.isWhole_whole _) a1 (Memref.isWhole_whole _) a2 (Memref.isWhole_whole _) a3 (Memref.isWhole_whole _) a4 (Memref.isWhole_whole _) a5 (Memref.isWhole_whole _) xb (Memref.isWhole_whole _) pb (Memref.isWhole_whole _) rb (Memref.isWhole_whole _) cc0_scratch3 cc0_scratch4 cc0_scratch5 cc0_scratch6 from rfl,
    show (dat m c).after 0 t0_0 = st0 m c from rfl, show (dat m c).after 1 t0_0 = st1 m c from rfl, show (dat m c).after 2 t0_0 = st2 m c from rfl,
    show (dat m c).after 3 t0_0 = st3 m c from rfl, show (dat m c).after 4 t0_0 = st4 m c from rfl, show (dat m c).after 5 t0_0 = outv (inp m) c from rfl]
  have h := body_sound m c
  unfold bodyPre bodyPost at h
  exact h

/-! ## The region as a segment -/

/-- What the region leaves in its result's array. -/
abbrev outs : Outs (F := F) := fun _ r c => Function.update (V1 m c) (Proc.devRef .tc main_v20) (outv (inp m) c) (Proc.devRef .tc r)

theorem V2_v20 : V2 m (outs m) c main_v20 = outv (inp m) c := by
  simp only [V2, outs, Function.update_self]

abbrev arrs : Finset (DevRef τ sig) := Pipeline.arrRefs (τ := τ) spec0
abbrev others : Finset (DevRef τ sig) := Pipeline.ucRefs τ sig \ arrs

theorem arrs_sub : arrs ⊆ Pipeline.ucRefs τ sig := Pipeline.arrRefs_sub_ucRefs spec0 (by decide)

theorem V2_others (b : DevRef τ sig) (hb : b ∈ others \ ∅) : V2 m (outs m) c b = V1 m c b := by
  have h : b ∉ arrs := (Finset.mem_sdiff.mp (Finset.mem_sdiff.mp hb).1).2
  refine Function.update_of_ne (fun e => h ?_) _ _
  subst e
  exact Finset.mem_map_of_mem _ (Finset.mem_image_of_mem _ (Finset.mem_univ (5 : Fin 6)))

theorem hin : iprop(Pipeline.scopedRest spec0 c ∗ (∃ r, prngReg c r) ∗ StableHlo.held (c : Thread nD τ) ∅ (V1 m c) ∗ Xk m c)
    ⊢ (dat m c).Φ (0 : Fin (cfg0.N + 1)) := by
  rw [Φ_first, scopedRest0_eq]
  unfold ΦIn scr
  iintro ⟨Hs, Hp, -, HX⟩
  isplitl [HX]; · iexact HX
  isplitl [Hs]; · iexact Hs
  iexact Hp

theorem held_none (W : Valuation τ sig (Elt F)) : (StableHlo.held (c : Thread nD τ) ∅ W : sProp 𝕄) = BI.emp := BI.bigSep_empty

theorem hout : (dat m c).Φ (Fin.last cfg0.N)
    ⊢ iprop(Pipeline.scopedRest spec0 c ∗ (∃ r, prngReg c r) ∗ StableHlo.held (c : Thread nD τ) ∅ (V2 m (outs m) c) ∗ Pipeline.ownSems0 osem c ∗ Yk c) := by
  rw [Φ_last, scopedRest0_eq, ownSems_eq, held_none]
  unfold ΦOut scr
  iintro ⟨HY, HK, Hs, Hp⟩
  isplitl [Hs]; · iexact Hs
  isplitl [Hp]; · iexact Hp
  isplitr; · iempintro
  isplitl [HK]; · iexact HK
  iexact HY

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {g : GSem nD τ sig} {u : Unit} (h : 0 < O₀ c g u) : (∃ k, g = recvCell (tgt c k) k) ∨ ∃ d, g = barCell d := by
  unfold O₀ at h
  rw [Pi.add_apply, Finsupp.add_apply, Pi.add_apply, Finsupp.add_apply] at h
  have hb (d : Dev nD) (h : 0 < (tallyAt (barCell d) () 1 : CellTallies nD τ sig Unit) g u) : g = barCell d := by
    rw [tallyAt_apply] at h
    split at h
    · next e => exact e.1
    · exact absurd h (Nat.lt_irrefl 0)
  rcases Nat.add_pos_iff_pos_or_pos.mp h with h | h
  · rcases Nat.add_pos_iff_pos_or_pos.mp h with h | h
    · obtain ⟨k, -, e⟩ := owedL_pos c allK g u h
      exact .inl ⟨k, e⟩
    · exact .inr ⟨_, hb _ h⟩
  · exact .inr ⟨_, hb _ h⟩

theorem lvK_pos (k : Fin 12) : 0 < lvK k := by revert k; decide

theorem cut (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · rcases O₀_pos c h with ⟨k, rfl⟩ | ⟨d, rfl⟩
    · exact ⟨by rw [L_tc]; exact Finset.mem_singleton_self _, by rw [lv_recv]; exact lvK_pos k⟩
    · exact ⟨by rw [L_tc]; exact Finset.mem_singleton_self _, by dsimp only [lv, lvS]; rw [if_pos rfl]; decide⟩
  · exact absurd h (Nat.lt_irrefl 0)

theorem win_lv : ∀ (w : Fin 6) (s : Fin (spec0 w).nbuf), lvS (.dma ((spec0 w).sem s)) = 0 := by decide

theorem share_eq (w : Fin cfg0.W) : (dat m c).share w = fullShare := by unfold Dat.share; split <;> rfl

theorem arr_first (w : Fin 6) : (dat m c).arrAt w 0 = V1 m c (Proc.devRef .tc (Pipeline.arrRef spec0 w)) := rfl

/-- The result's array ends at what the body stored. -/
theorem arr_out : (dat m c).arrAt (5 : Fin 6) cfg0.N = outv (inp m) c := by
  refine Dat.arrAt_eq_of_covers (dat m c) (5 : Fin 6) (outv (inp m) c) (by decide +kernel) (fun t _ y => ?_)
  rw [fin_N0 t]
  have e : (win0_5.blk t0_0).view.emb y = y := by
    funext a
    apply Fin.ext
    blk_simp
    rw [show win0_5.index t0_0 a = 0 from rfl, Nat.zero_mul, Nat.zero_add]
  exact (show _ = outv (inp m) c y from rfl).trans (congrArg (outv (inp m) c) e).symm

theorem arr_last (w : Fin 6) : (dat m c).arrAt w cfg0.N = V2 m (outs m) c (Proc.devRef .tc (Pipeline.arrRef spec0 w)) := by
  have hi (w : Fin 6) (h : (cfg0.win w).isOut = false) (hn : Pipeline.arrRef spec0 w ∉ ([main_v20] : List (Ref sig .tc))) :
      (dat m c).arrAt w cfg0.N = V2 m (outs m) c (Proc.devRef .tc (Pipeline.arrRef spec0 w)) :=
    ((dat m c).arrAt_in w h _).trans (V2_of m (outs m) c _ hn).symm
  fin_cases w
  · exact hi 0 rfl (by decide)
  · exact hi 1 rfl (by decide)
  · exact hi 2 rfl (by decide)
  · exact hi 3 rfl (by decide)
  · exact hi 4 rfl (by decide)
  · exact (arr_out m c).trans (V2_v20 m c).symm

set_option backward.isDefEq.respectTransparency.types false in
/-- The kernel's region between the two host stretches. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_obligation m c).loose)
    (fun _ => 0) O₀ (fun c => (owed_first m c).trans (zero_add _).symm) (owed_last m) (fun _ => rfl) (share_eq m)
    (V1 m) (V2 m (outs m)) (V2_others m)
    (Tk m) Yk (Xk m) Yk (hopen m) (hin m) (hout m)
    (fun c => by iintro H; imodintro; iexact H)
    (fun _ => 0)
    ⟨fun c w s => by rw [L_tc]; exact Finset.mem_singleton_self _, fun c w s => le_of_eq (win_lv w s), fun c t g i h => cut m c t g i h⟩
    (fun _ => iprop(emp))
    (arr_first m) (arr_last m)

theorem reg_pre : iprop(StableHlo.held (c : Thread nD τ) (Pipeline.ucRefs τ sig) (V1 m c) ∗ (Tk m c ∗ (∃ r, prngReg c r) ∗ ∃ W, owes (c : Thread nD τ) (O₀ c) W))
    ⊢ (reg m).pre c := by
  show _ ⊢ iprop(StableHlo.held (c : Thread nD τ) arrs (V1 m c) ∗ (∃ r, prngReg c r)
    ∗ (StableHlo.held (c : Thread nD τ) others (V1 m c) ∗ emp) ∗ Tk m c ∗ ∃ Wd, owes (c : Thread nD τ) (0 + O₀ c) Wd)
  rw [zero_add, StableHlo.held_sub_split (c : Thread nD τ) arrs_sub (V1 m c)]
  iintro ⟨⟨HA, HR⟩, HT, Hp, HO⟩
  isplitl [HA]; · iexact HA
  isplitl [Hp]; · iexact Hp
  isplitl [HR]
  · isplitl [HR]; · iexact HR
    iempintro
  isplitl [HT]; · iexact HT
  iexact HO

theorem reg_post : (reg m).post c
    ⊢ iprop(StableHlo.held (c : Thread nD τ) (Pipeline.ucRefs τ sig) (V2 m (outs m) c) ∗ (semVal (barCell c) 0 ∗ ∃ W, owes (c : Thread nD τ) (0 : CellTallies nD τ sig Unit) W)) := by
  show iprop(StableHlo.held (c : Thread nD τ) arrs (V2 m (outs m) c) ∗ (∃ r, prngReg c r)
    ∗ (StableHlo.held (c : Thread nD τ) others (V2 m (outs m) c) ∗ emp) ∗ Yk c ∗ ∃ Wd, owes (c : Thread nD τ) (0 : CellTallies nD τ sig Unit) Wd) ⊢ _
  rw [StableHlo.held_sub_split (c : Thread nD τ) arrs_sub (V2 m (outs m) c)]
  unfold Yk
  iintro ⟨HA, -, ⟨HR, -⟩, HB, HO⟩
  isplitl [HA HR]
  · isplitl [HA]; · iexact HA
    iexact HR
  isplitl [HB]; · iexact HB
  iexact HO

end Cert.Talk
-- ==== Proof.Deal.lean ====
/-
What the launch deals: the cells, the tokens of the duties to each device that pays them, and the credits for what each device is owed.
-/
module

public import proofs.«01_k».proof.Proof.Region

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The cells -/

theorem osem_inj : Function.Injective osem := by decide
theorem osem_ne_bar : ∀ p, osem p ≠ SemLoc.reg barS := by decide

def barEmb : Dev nD ↪ GSem nD τ sig := ⟨fun c => barCell c, fun _ _ h => congrArg (fun g : GSem nD τ sig => g.1.1) h⟩
def scEmb : Dev nD × (Fin 12 × Fin 2) ↪ GSem nD τ sig :=
  ⟨fun ck => ((ck.1 : Thread nD τ), osem ck.2), fun _ _ h => Prod.ext (congrArg (fun g : GSem nD τ sig => g.1.1) h) (osem_inj (congrArg Prod.snd h))⟩

def barCells : Finset (GSem nD τ sig) := Finset.univ.map barEmb
def scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ barCells := Finset.mem_map_of_mem barEmb (Finset.mem_univ c)
theorem send_mem (c : Dev nD) (k : Fin 12) : sendCell c k ∈ scCells := (show scEmb (c, (k, 0)) = sendCell c k from rfl) ▸ Finset.mem_map_of_mem scEmb (Finset.mem_univ (c, (k, 0)))
theorem recv_mem (c : Dev nD) (k : Fin 12) : recvCell c k ∈ scCells := (show scEmb (c, (k, 1)) = recvCell c k from rfl) ▸ Finset.mem_map_of_mem scEmb (Finset.mem_univ (c, (k, 1)))

/-! ## The tokens -/

/-- The cell of the `i`-th handshake duty device `c` pays, and that of the `p`-th copy duty. -/
def shakeDev (c : Dev nD) : Fin 2 → Dev nD | 0 => lft c | 1 => rgt c
def copyDev (c : Dev nD) : Fin 12 × Fin 2 → Dev nD | (_, 0) => c | (k, 1) => tgt c k

def tok : Dev nD × (Fin 2 ⊕ (Fin 12 × Fin 2)) → GSem nD τ sig × ℕ × Bool
  | (c, .inl i) => (barCell (shakeDev c i), 0, i = 0)
  | (c, .inr p) => (((copyDev c p : Thread nD τ), osem p), 0, false)

theorem shakeDev_inj : ∀ (i j : Fin 2) (c d : Dev nD), decide (i = 0) = decide (j = 0) → shakeDev c i = shakeDev d j → i = j ∧ c = d := by decide
theorem copyDev_inj : ∀ (p : Fin 12 × Fin 2) (c d : Dev nD), copyDev c p = copyDev d p → c = d := by decide

theorem tok_inj : Function.Injective tok := by
  rintro ⟨c, i | p⟩ ⟨d, j | q⟩ h
  · have e := shakeDev_inj i j c d (congrArg (fun t : GSem nD τ sig × ℕ × Bool => t.2.2) h) (congrArg (fun t : GSem nD τ sig × ℕ × Bool => t.1.1.1) h)
    rw [e.1, e.2]
  · exact absurd (congrArg (fun t : GSem nD τ sig × ℕ × Bool => t.1.2) h).symm (osem_ne_bar q)
  · exact absurd (congrArg (fun t : GSem nD τ sig × ℕ × Bool => t.1.2) h) (osem_ne_bar p)
  · have e : p = q := osem_inj (congrArg (fun t : GSem nD τ sig × ℕ × Bool => t.1.2) h)
    subst e
    rw [copyDev_inj p c d (congrArg (fun t : GSem nD τ sig × ℕ × Bool => t.1.1.1) h)]

def talkToks : Finset (GSem nD τ sig × ℕ × Bool) := Finset.univ.map ⟨tok, tok_inj⟩

/-- The tokens device `c` pays with. -/
def toks (c : Dev nD) : sProp 𝕄 :=
  iprop((dutyTok ER (barCell (lft c)) 0 true ∗ dutyTok ER (barCell (rgt c)) 0 false)
    ∗ bigSep Finset.univ fun k : Fin 12 => iprop(dutyTok ER (sendCell c k) 0 false ∗ dutyTok ER (recvCell (tgt c k) k) 0 false))

theorem toks_eq : (bigSep talkToks fun x => (dutyTok ER x.1 x.2.1 x.2.2 : sProp 𝕄)) = bigSep Finset.univ fun c => toks (F := F) c := by
  unfold talkToks
  rw [BI.bigSep_map, bigSep_univ_prod]
  refine bigSep_congr fun c _ => ?_
  rw [BI.bigSep_univ_sum, bigSep_univ_prod]
  refine congrArg₂ (fun A B : sProp 𝕄 => iprop(A ∗ B)) ?_ (bigSep_congr fun k _ => ?_)
  · exact BI.bigSep_fin_two (fun i : Fin 2 => (dutyTok ER (tok (c, .inl i)).1 (tok (c, .inl i)).2.1 (tok (c, .inl i)).2.2 : sProp 𝕄))
  · exact BI.bigSep_fin_two (fun i : Fin 2 => (dutyTok ER (tok (c, .inr (k, i))).1 (tok (c, .inr (k, i))).2.1 (tok (c, .inr (k, i))).2.2 : sProp 𝕄))

/-- The rights to open device `c`'s cells. -/
def opens (c : Dev nD) : sProp 𝕄 := bigSep Finset.univ fun k : Fin 12 => iprop(openTok ER (sendCell c k) ∗ openTok ER (recvCell c k))

theorem opens_eq : (bigSep scCells fun g => (openTok ER g : sProp 𝕄)) = bigSep Finset.univ fun c => opens (F := F) c := by
  unfold scCells opens
  rw [BI.bigSep_map, bigSep_univ_prod]
  refine bigSep_congr fun c _ => ?_
  rw [bigSep_univ_prod]
  exact bigSep_congr fun k _ => BI.bigSep_fin_two (fun i : Fin 2 => (openTok ER (scEmb (c, (k, i))) : sProp 𝕄))

/-! ## The credits -/

theorem recv_eq (c d : Dev nD) (k j : Fin 12) : recvCell c k = recvCell d j ↔ c = d ∧ k = j :=
  ⟨fun h => ⟨congrArg (fun g : GSem nD τ sig => g.1.1) h, congrArg Prod.fst (@osem_inj (k, 1) (j, 1) (congrArg Prod.snd h))⟩, fun h => by rw [h.1, h.2]⟩

theorem recv_ne_bar (c d : Dev nD) (k : Fin 12) : recvCell c k ≠ barCell d := fun h => osem_ne_bar (k, 1) (congrArg Prod.snd h)
theorem bar_eq (c d : Dev nD) : barCell c = barCell d ↔ c = d := ⟨fun h => congrArg (fun g : GSem nD τ sig => g.1.1) h, fun h => by rw [h]⟩

theorem owedL_recv (d c : Dev nD) (k : Fin 12) : ∀ ks : List (Fin 12),
    (owedL d ks : CellTallies nD τ sig Unit) (recvCell c k) () = ks.countP (fun j => decide (c = tgt d j ∧ k = j)) * N
  | [] => by rw [List.countP_nil, Nat.zero_mul]; rfl
  | j :: ks => by
    show (owedL d ks : CellTallies nD τ sig Unit) (recvCell c k) () + tallyAt (recvCell (tgt d j) j) () N (recvCell c k) () = _
    rw [owedL_recv d c k ks, tallyAt_apply, List.countP_cons, Nat.add_mul]
    refine congrArg (List.countP (fun j => decide (c = tgt d j ∧ k = j)) ks * N + ·) ?_
    by_cases h : c = tgt d j ∧ k = j
    · rw [if_pos ⟨(recv_eq _ _ _ _).mpr h, rfl⟩, if_pos (decide_eq_true h), Nat.one_mul]
    · rw [if_neg (fun e => h ((recv_eq _ _ _ _).mp e.1)), if_neg (by simpa using h), Nat.zero_mul]

theorem owedL_bar (d c : Dev nD) (ks : List (Fin 12)) : (owedL d ks : CellTallies nD τ sig Unit) (barCell c) () = 0 := by
  by_contra h
  obtain ⟨k, -, e⟩ := owedL_pos d ks (barCell c) () (Nat.pos_of_ne_zero h)
  exact recv_ne_bar _ _ _ e.symm

theorem O₀_apply (d : Dev nD) (g : GSem nD τ sig) : O₀ d g () = (owedL d allK g () + tallyAt (barCell (rgt d)) () 1 g ()) + tallyAt (barCell (lft d)) () 1 g () := rfl

theorem owed_recv (d c : Dev nD) (k : Fin 12) : O₀ d (recvCell c k) () = allK.countP (fun j => decide (c = tgt d j ∧ k = j)) * N := by
  rw [O₀_apply, owedL_recv, tallyAt_apply, tallyAt_apply, if_neg (fun e => recv_ne_bar _ _ _ e.1), if_neg (fun e => recv_ne_bar _ _ _ e.1), Nat.add_zero]

theorem owed_bar (d c : Dev nD) : O₀ d (barCell c) () = (if c = rgt d then 1 else 0) + (if c = lft d then 1 else 0) := by
  rw [O₀_apply, owedL_bar, tallyAt_apply, tallyAt_apply, Nat.zero_add]
  simp only [bar_eq, and_true]

theorem count_recv : ∀ (c : Dev nD) (k : Fin 12), ∑ d : Dev nD, allK.countP (fun j => decide (c = tgt d j ∧ k = j)) = 1 := by decide +kernel
theorem count_bar : ∀ c : Dev nD, ∑ d : Dev nD, ((if c = rgt d then 1 else 0) + (if c = lft d then 1 else 0)) = 2 := by decide +kernel

theorem launch_recv (c : Dev nD) (k : Fin 12) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.sum_mul, count_recv, Nat.one_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, count_bar]

def recvEmb : Fin 12 ↪ SemLoc sig := ⟨fun k => osem (k, 1), fun _ _ h => congrArg Prod.fst (osem_inj h)⟩

/-- The credits of device `c`: two signals, and every copy's landing. -/
theorem creds (c : Dev nD) :
    (Pipeline.launchCred O₀ c : sProp 𝕄) ⊢ iprop(cred (tallyAt (barCell c) () 2) ∗ bigSep Finset.univ fun k => cred (tallyAt (recvCell c k) () N)) := by
  unfold Pipeline.launchCred
  rw [bigSep_univ_at _ (SemLoc.reg barS), launch_bar]
  refine sep_mono_right ?_
  refine (BI.bigSep_subset (t := Finset.univ.map recvEmb) fun s hs => ?_).trans ?_
  · obtain ⟨k, -, rfl⟩ := Finset.mem_map.mp hs
    exact Finset.mem_erase.mpr ⟨osem_ne_bar (k, 1), Finset.mem_univ _⟩
  · rw [BI.bigSep_map]
    exact bigSep_mono fun k _ => Entails.of_eq (congrArg (fun t => (cred t : sProp 𝕄)) (launch_recv c k))

/-! ## The launch -/

theorem unscoped_bar : (Finset.univ.filter fun sm : SemLoc sig => ¬ sm.isScoped .tc) = {SemLoc.reg barS} := by decide
theorem unscoped_eq : ∀ sm : SemLoc sig, sm.isScoped .tc = false → sm = .reg barS := by decide

theorem unscopedSems0_eq (c : Dev nD) : (unscopedSems0 c : sProp 𝕄) = semVal (barCell c) 0 := by
  unfold unscopedSems0
  rw [unscoped_bar, BI.bigSep_singleton]

/-- Every cell's invariant and that the handshake's cells are in round 0. -/
def records (κ : GSem nD τ sig → ℕ) : sProp 𝕄 :=
  iprop((bigSep (barCells ∪ scCells) fun g => cellInv ER (talkRd (inp m)) (κ g) g) ∗ bigSep barCells fun g => reached ER g 0)
instance (κ : GSem nD τ sig → ℕ) : BI.Persistent (records m κ) := by unfold records; infer_instance

theorem records_inv (κ : GSem nD τ sig → ℕ) (g : GSem nD τ sig) (h : g ∈ barCells ∪ scCells) :
    (records m κ : sProp 𝕄) ⊢ cellInv ER (talkRd (inp m)) (κ g) g := by
  have e : (bigSep (barCells ∪ scCells) fun g => (cellInv ER (talkRd (inp m)) (κ g) g : sProp 𝕄)) ⊢ cellInv ER (talkRd (inp m)) (κ g) g := bigSep_elim h
  unfold records; iintro ⟨H, -⟩; iapply e; iexact H
theorem records_reached (κ : GSem nD τ sig → ℕ) (c : Dev nD) : (records m κ : sProp 𝕄) ⊢ reached ER (barCell c) 0 := by
  have e : (bigSep barCells fun g => (reached ER g 0 : sProp 𝕄)) ⊢ reached ER (barCell c) 0 := bigSep_elim (bar_mem c)
  unfold records; iintro ⟨-, H⟩; iapply e; iexact H

theorem records_recs (κ : GSem nD τ sig → ℕ) : (records m κ : sProp 𝕄) ⊢ recs (inp m) κ := by
  unfold recs
  iintro #H
  isplitr
  · iintro %n; iapply (records_inv m κ (barCell n) (Finset.mem_union_left _ (bar_mem n))); iexact H
  isplitr
  · iintro %p; iapply (records_inv m κ (sendCell p.1 p.2) (Finset.mem_union_right _ (send_mem p.1 p.2))); iexact H
  · iintro %p; iapply (records_inv m κ (recvCell p.1 p.2) (Finset.mem_union_right _ (recv_mem p.1 p.2))); iexact H

theorem gather_one (c : Dev nD) (k : Fin 12) :
    iprop((openTok ER (sendCell c k) ∗ openTok ER (recvCell c k))
      ∗ ((dutyTok ER (sendCell c k) 0 false ∗ dutyTok ER (recvCell (tgt c k) k) 0 false) ∗ cred (tallyAt (recvCell c k) () N)))
      ⊢ (shutIn (F := F) c k : sProp 𝕄) := by
  unfold shutIn
  iintro ⟨⟨A, B⟩, ⟨C, D⟩, E⟩
  isplitl [A]; · iexact A
  isplitl [B]; · iexact B
  isplitl [C]; · iexact C
  isplitl [D]; · iexact D
  iexact E

theorem gather (c : Dev nD) :
    (bigSep Finset.univ fun k : Fin 12 => iprop((openTok ER (sendCell c k) ∗ openTok ER (recvCell c k))
      ∗ ((dutyTok ER (sendCell c k) 0 false ∗ dutyTok ER (recvCell (tgt c k) k) 0 false) ∗ cred (tallyAt (recvCell c k) () N))))
      ⊢ (bigSep Finset.univ (shutIn (F := F) c) : sProp 𝕄) := bigSep_mono fun k _ => gather_one c k

/-- What one device is dealt makes what its region starts from. -/
theorem Tk_intro (κ : GSem nD τ sig → ℕ) (c : Dev nD) :
    iprop(records m κ ∗ (atPos ER (barCell c) 0 ∅ 0 ∗ opens c ∗ toks c ∗ Pipeline.launchCred O₀ c)) ⊢ (Tk m c : sProp 𝕄) := by
  unfold toks opens Tk barRes
  iintro ⟨#HR, HA, HP, ⟨⟨T1, T2⟩, TK⟩, HC⟩
  ihave ⟨C2, CK⟩ := (creds (F := F) c) $$ HC
  isplitr
  · iexists κ; iapply (records_recs m κ); iexact HR
  isplitl [HA T1 T2 C2]
  · isplitl [T1]; · iexact T1
    isplitr; · iapply (records_reached m κ (lft c)); iexact HR
    isplitl [T2]; · iexact T2
    isplitr; · iapply (records_reached m κ (rgt c)); iexact HR
    isplitl [C2]; · iexact C2
    iexact HA
  · ihave H := (Entails.of_eq (bigSep_sep' Finset.univ (fun k : Fin 12 => iprop(dutyTok ER (sendCell c k) 0 false ∗ dutyTok ER (recvCell (tgt c k) k) 0 false)) (fun k => (cred (tallyAt (recvCell c k) () N) : sProp 𝕄))).symm) $$ [TK CK]
    · isplitl [TK]; · iexact TK
      iexact CK
    ihave H := (Entails.of_eq (bigSep_sep' Finset.univ (fun k : Fin 12 => iprop(openTok ER (sendCell c k) ∗ openTok ER (recvCell c k))) (fun k => (iprop((dutyTok ER (sendCell c k) 0 false ∗ dutyTok ER (recvCell (tgt c k) k) 0 false) ∗ cred (tallyAt (recvCell c k) () N)) : sProp 𝕄))).symm) $$ [HP H]
    · isplitl [HP]; · iexact HP
      iexact H
    iapply (gather c); iexact H

theorem with_records {s : Finset (Dev nD)} {R : sProp 𝕄} [BI.Persistent R] {Φ Ψ : Dev nD → sProp 𝕄} (h : ∀ c, iprop(R ∗ Φ c) ⊢ Ψ c) :
    iprop(R ∗ bigSep s Φ) ⊢ (bigSep s Ψ : sProp 𝕄) :=
  (sep_mono_left (BI.bigSep_of_persistent s R)).trans (by rw [← bigSep_sep']; exact bigSep_mono fun c _ => h c)

/-- The cells' launch: from every device's barrier counter and credits and the cells' ghost state, what every region starts from. -/
theorem deal : iprop((bigSep Finset.univ fun c : Dev nD => iprop(semVal (barCell c) 0 ∗ Pipeline.launchCred O₀ c)) ∗ BI.own (ER (launchOf barCells scCells talkToks)))
    ⊢ (|={Set.univ}=> bigSep Finset.univ (Tk m) : sProp 𝕄) := by
  iintro ⟨H, HU⟩
  ihave ⟨HB, HC⟩ := (Entails.of_eq (bigSep_sep' Finset.univ (fun c : Dev nD => (semVal (barCell c) 0 : sProp 𝕄)) (fun c => Pipeline.launchCred O₀ c))) $$ H
  imod (Rounds.fund_launch (Name := ℕ) ER (talkRd (inp m)) disjoint_cells (fun g _ h => h) talkToks) $$ [HB HU] with ⟨%κ, -, #Hinv, #Hr, Hat, Hopen, Htok⟩
  · isplitl [HB]
    · unfold barCells; rw [BI.bigSep_map]; iexact HB
    iexact HU
  imodintro
  ihave Htok := (Entails.of_eq toks_eq) $$ Htok
  ihave Hopen := (Entails.of_eq opens_eq) $$ Hopen
  ihave Hat := (Entails.of_eq (show (bigSep barCells fun g => (atPos ER g 0 ∅ 0 : sProp 𝕄)) = bigSep Finset.univ fun c : Dev nD => (atPos ER (barCell c) 0 ∅ 0 : sProp 𝕄) from BI.bigSep_map barEmb)) $$ Hat
  iapply (with_records (R := records m κ) (Tk_intro m κ))
  isplitr
  · unfold records; isplitr; · iexact Hinv
    iexact Hr
  rw [bigSep_sep', bigSep_sep', bigSep_sep']
  isplitl [Hat]; · iexact Hat
  isplitl [Hopen]; · iexact Hopen
  isplitl [Htok]; · iexact Htok
  iexact HC

end Cert.Talk
-- ==== Proof.Launch.lean ====
/-
The whole program's run: every execution ends with the arguments as they were, the result at the host's reshape of what every
device's body stored, and every counter zero.
-/
module

public import proofs.«01_k».proof.Proof.Deal
public import proofs.«01_k».proof.Proof.Gen.KernelIdeal.Launch

@[expose] public section

noncomputable section

namespace Cert.Talk

open Cert.KernelIdeal Cert.KernelIdeal.Gen
open Idealize.ShloMosaic Idealize.ShloMosaic.TcCoe
open Idealize.ShloMosaic.Pipeline (Dat Seg RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- One resource, held for device `0`. -/
def atZero (X : sProp 𝕄) (c : Dev nD) : sProp 𝕄 := if c = 0 then X else BI.emp

theorem bigSep_atZero (X : sProp 𝕄) : bigSep Finset.univ (atZero (F := F) X) = X := by
  rw [bigSep_univ_at _ (0 : Dev nD), bigSep_congr (s := Finset.univ.erase 0) (Ψ := fun _ => BI.emp) fun c hc => by
    unfold atZero; rw [if_neg (Finset.ne_of_mem_erase hc)], BI.bigSep_emp_const]
  unfold atZero; rw [if_pos rfl]
  exact BI.equiv_iff.mp sep_emp

abbrev G₀ : Dev nD → sProp 𝕄 := atZero (F := F) (BI.own (ER (launchOf barCells scCells talkToks)))

def u₀ : UU := (initOf (Pipeline.cells cfgs cellOf_inj) (Pipeline.launchToks cfgs cellOf_inj), launchOf barCells scCells talkToks)

theorem hu₀ : (ownU u₀ : sProp 𝕄) ⊢ |={Set.univ}=> iprop(BI.own (EP (initOf (Pipeline.cells cfgs cellOf_inj) (Pipeline.launchToks cfgs cellOf_inj))) ∗ bigSep Finset.univ (G₀ (F := F))) := by
  unfold u₀
  rw [bigSep_atZero]
  iintro Hu
  ihave ⟨HP, HX⟩ := (ownU_pair _ _) $$ Hu
  imodintro
  isplitl [HP]; · iexact HP
  iexact HX

/-- The state beside the host's buffers before the region and after it. -/
def E : Fin 2 → Dev nD → sProp 𝕄
  | 0, c => iprop(Tk m c ∗ (∃ r, prngReg c r) ∗ ∃ W, owes (c : Thread nD τ) (O₀ c) W)
  | 1, c => iprop(semVal (barCell c) 0 ∗ ∃ W, owes (c : Thread nD τ) (0 : CellTallies nD τ sig Unit) W)

theorem init_one (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G₀ c)
    ⊢ (iprop((StableHlo.held (c : Thread nD τ) (Pipeline.ucRefs τ sig) (V0 m c) ∗ ((∃ r, prngReg c r) ∗ ∃ W, owes (c : Thread nD τ) (O₀ c) W))
        ∗ ((semVal (barCell c) 0 ∗ Pipeline.launchCred O₀ c) ∗ G₀ c)) : sProp 𝕄) := by
  rw [← Pipeline.unscopedBufs_held (Ix := Unit) (Name := ℕ) (U := UU) (Lvl := ℕ) c (V0 m c), unscopedSems0_eq]
  iintro ⟨Hb, Hs, HO, HC, Hp, HG⟩
  isplitl [Hb HO Hp]
  · isplitl [Hb]; · iexact Hb
    isplitl [Hp]; · iexists _; iexact Hp
    iexists _; iexact HO
  isplitl [Hs HC]
  · isplitl [Hs]; · iexact Hs
    iexact HC
  iexact HG

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G₀ c)) ∗ levAts L lv)
    ⊢ (|={Set.univ}=> bigSep Finset.univ (fun c : Dev nD => iprop(StableHlo.held (c : Thread nD τ) (Pipeline.ucRefs τ sig) (V0 m c) ∗ E m 0 c)) : sProp 𝕄) := by
  have h1 : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G₀ c))
      ⊢ (bigSep Finset.univ fun c : Dev nD => (iprop((StableHlo.held (c : Thread nD τ) (Pipeline.ucRefs τ sig) (V0 m c) ∗ ((∃ r, prngReg c r) ∗ ∃ W, owes (c : Thread nD τ) (O₀ c) W))
        ∗ ((semVal (barCell c) 0 ∗ Pipeline.launchCred O₀ c) ∗ G₀ c)) : sProp 𝕄)) := bigSep_mono fun c _ => init_one m ρ c
  have h2 (c : Dev nD) : iprop(Tk m c ∗ (StableHlo.held (c : Thread nD τ) (Pipeline.ucRefs τ sig) (V0 m c) ∗ ((∃ r, prngReg c r) ∗ ∃ W, owes (c : Thread nD τ) (O₀ c) W)))
      ⊢ (iprop(StableHlo.held (c : Thread nD τ) (Pipeline.ucRefs τ sig) (V0 m c) ∗ E m 0 c) : sProp 𝕄) := by
    unfold E
    iintro ⟨HT, HH, Hp, HO⟩
    isplitl [HH]; · iexact HH
    isplitl [HT]; · iexact HT
    isplitl [Hp]; · iexact Hp
    iexact HO
  have h3 : (bigSep Finset.univ fun c : Dev nD => (iprop(Tk m c ∗ (StableHlo.held (c : Thread nD τ) (Pipeline.ucRefs τ sig) (V0 m c) ∗ ((∃ r, prngReg c r) ∗ ∃ W, owes (c : Thread nD τ) (O₀ c) W))) : sProp 𝕄))
      ⊢ (bigSep Finset.univ fun c : Dev nD => (iprop(StableHlo.held (c : Thread nD τ) (Pipeline.ucRefs τ sig) (V0 m c) ∗ E m 0 c) : sProp 𝕄)) := bigSep_mono fun c _ => h2 c
  iintro ⟨H, -⟩
  ihave H := h1 $$ H
  ihave ⟨HA, HB⟩ := (Entails.of_eq (bigSep_sep' Finset.univ (fun c : Dev nD => (iprop(StableHlo.held (c : Thread nD τ) (Pipeline.ucRefs τ sig) (V0 m c) ∗ ((∃ r, prngReg c r) ∗ ∃ W, owes (c : Thread nD τ) (O₀ c) W)) : sProp 𝕄))
    (fun c => iprop((semVal (barCell c) 0 ∗ Pipeline.launchCred O₀ c) ∗ G₀ c)))) $$ H
  ihave ⟨HB, HG⟩ := (Entails.of_eq (bigSep_sep' Finset.univ (fun c : Dev nD => (iprop(semVal (barCell c) 0 ∗ Pipeline.launchCred O₀ c) : sProp 𝕄)) (G₀ (F := F)))) $$ HB
  ihave HG := (Entails.of_eq (bigSep_atZero (F := F) _)) $$ HG
  imod (deal m) $$ [HB HG] with HT
  · isplitl [HB]; · iexact HB
    iexact HG
  imodintro
  iapply h3
  iapply (Entails.of_eq (bigSep_sep' Finset.univ (Tk m) (fun c : Dev nD => (iprop(StableHlo.held (c : Thread nD τ) (Pipeline.ucRefs τ sig) (V0 m c) ∗ ((∃ r, prngReg c r) ∗ ∃ W, owes (c : Thread nD τ) (O₀ c) W)) : sProp 𝕄))).symm)
  isplitl [HT]; · iexact HT
  iexact HA

/-- What the run leaves in device `c`'s memory: the arguments, and the result the host reshapes out of the body's. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v21) = V3 m (outs m) c main_v21

theorem read_end (c : Dev nD) (s' : Phys nD τ sig (Elt F)) :
    iprop((StableHlo.held (c : Thread nD τ) (Pipeline.ucRefs τ sig) (V3 m (outs m) c) ∗ semVal (barCell c) 0) ∗ SI s')
    ⊢ (|={Set.univ}=> iprop(⌜Ends m c s'.mem ∧ s'.mem.sem (barCell c) = 0⌝ ∗ SI s') : sProp 𝕄) := by
  unfold StableHlo.held
  iintro ⟨⟨Hh, Hb0⟩, HSI⟩
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  icombine HSI Hb0 gives %hb
  imodintro
  isplitr
  · ipureintro
    have at' (r : Ref sig .tc) (hr : ¬ (r.isScoped = true)) : s'.mem.mem ((c.tc : Thread nD τ).loc r) = V3 m (outs m) c (Proc.devRef .tc r) :=
      h (Proc.devRef .tc r) (Finset.mem_filter.mpr ⟨StableHlo.devRef_mem_tcRefs r, hr⟩)
    exact ⟨⟨⟨(at' main_arg0 (by decide)).trans (V3_main_arg0 m (outs m) c), (at' main_arg1 (by decide)).trans (V3_main_arg1 m (outs m) c),
      (at' main_arg2 (by decide)).trans (V3_main_arg2 m (outs m) c), (at' main_arg3 (by decide)).trans (V3_main_arg3 m (outs m) c),
      (at' main_arg4 (by decide)).trans (V3_main_arg4 m (outs m) c)⟩, at' main_v21 (by decide)⟩, by simpa using hb⟩
  · iexact HSI

set_option backward.isDefEq.respectTransparency.types false in
/-- Every execution ends, on every device as `Ends` says, with every counter zero. -/
theorem run_main : θ_run (defs (F := F)) (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Seg.run_eq_chain,
        show (segs m (outs m) 𝒱₀ L lv (E m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ (fun g h => L_of_ne g h) G₀ u₀ hu₀
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := init m ρ) (QY := fun c s => Ends m c s ∧ s.sem (barCell c) = 0)
    (hfin := read_end m)
    (hQ := fun s h hs => ⟨fun c => (h c).1, sem_eq_zero hs fun c sm hsm => by
      obtain rfl := unscoped_eq sm hsm
      exact (h c).2⟩)
  show iprop(StableHlo.held (c : Thread nD τ) (Pipeline.ucRefs τ sig) (V3 m (outs m) c) ∗ E m 1 c) ⊢ _
  unfold E
  iintro ⟨HA, HB, HO⟩
  isplitr [HO]
  · isplitl [HA]; · iexact HA
    iexact HB
  iexact HO

/-- The run as the frame claims state it. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (run_main m ρ)

end Cert.Talk
-- ==== Proof.Softmax.lean ====
/-
The softmax, with its row's maximum taken off and without: one quotient, over the extended reals.
-/
module

public import Idealize.ShloMosaic.PureOps.Ideal
public import Idealize.ShloMosaic.PureOps.Ideal.Laws

@[expose] public section

noncomputable section

namespace Cert.Softmax

open Idealize.ShloMosaic

/-- A factor that is a real and not negative goes into a sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A sum of reals, as extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals, at least one of them, is a real. -/
theorem fold_max_real {n : ℕ} [NeZero n] (f : Fin n → ℝ) : ∃ M : ℝ, Finset.fold max (⊥ : EReal) (fun j => (f j : EReal)) Finset.univ = M := by
  have h0 : Finset.fold max (⊥ : EReal) (fun j => (f j : EReal)) Finset.univ ≠ ⊥ := by
    refine ne_of_gt ((Finset.lt_fold_max _).mpr (Or.inr ⟨0, Finset.mem_univ _, EReal.bot_lt_coe _⟩))
  have h1 : Finset.fold max (⊥ : EReal) (fun j => (f j : EReal)) Finset.univ ≠ ⊤ := by
    refine ne_of_lt ((Finset.fold_max_lt _).mpr ⟨bot_lt_top, fun j _ => EReal.coe_lt_top _⟩)
  exact ⟨_, (EReal.coe_toReal h1 h0).symm⟩

/-- Weights `exp s`, then times one over their sum, is weights `exp (s - M)`, then divided by their sum: for real scores, whatever the
values weighted are. -/
theorem quotient {n : ℕ} [NeZero n] (s : Fin n → ℝ) (M : ℝ) (v : Fin n → EReal) :
    (∑ j, Ideal.exp (s j : EReal) * v j) * Ideal.div 1 (∑ j, Ideal.exp (s j : EReal))
      = Ideal.div (∑ j, v j * Ideal.exp ((s j : EReal) - M)) (∑ j, Ideal.exp ((s j : EReal) - M)) := by
  have hexp : ∀ x : ℝ, Ideal.exp (x : EReal) = (Real.exp x : EReal) := fun x => rfl
  have hsub : ∀ j, Ideal.exp ((s j : EReal) - M) = ((Real.exp (-M) : ℝ) : EReal) * (Real.exp (s j) : EReal) := fun j => by
    rw [← EReal.coe_sub, hexp, ← EReal.coe_mul, ← Real.exp_add]
    congr 2; ring
  set L : ℝ := ∑ j, Real.exp (s j) with hL
  have hLpos : 0 < L := Finset.sum_pos (fun j _ => Real.exp_pos _) ⟨0, Finset.mem_univ _⟩
  have hc : 0 < Real.exp (-M) := Real.exp_pos _
  have e1 : ∑ j, Ideal.exp (s j : EReal) = (L : EReal) := coe_sum _ _
  have e2 : ∑ j, Ideal.exp ((s j : EReal) - M) = ((Real.exp (-M) * L : ℝ) : EReal) := by
    rw [Finset.sum_congr rfl fun j _ => hsub j, ← mul_sum _ _ hc.le, coe_sum, ← EReal.coe_mul]
  have e3 : ∑ j, v j * Ideal.exp ((s j : EReal) - M) = ((Real.exp (-M) : ℝ) : EReal) * ∑ j, Ideal.exp (s j : EReal) * v j := by
    rw [mul_sum _ _ hc.le]
    exact Finset.sum_congr rfl fun j _ => by rw [hsub, hexp, mul_comm, mul_assoc]
  rw [e1, e2, e3]
  generalize ∑ j, Ideal.exp (s j : EReal) * v j = A
  have hne : (L : EReal) ≠ 0 := by exact_mod_cast hLpos.ne'
  have hne' : ((Real.exp (-M) * L : ℝ) : EReal) ≠ 0 := by exact_mod_cast (mul_pos hc hLpos).ne'
  unfold Ideal.div
  rw [if_neg hne, if_neg hne', one_mul, ← EReal.coe_inv, ← EReal.coe_inv, mul_comm _ A, mul_assoc, ← EReal.coe_mul]
  congr 2
  field_simp

end Cert.Softmax
-- ==== Proof.Reference.lean ====
/-
What the reference computes, as sums of extended reals.
-/
module

public import proofs.«01_k».proof.Proof.Gen.ReferenceIdeal.Run
public import Idealize.ShloMosaic.Lib.Pointwise

@[expose] public section

noncomputable section

namespace Cert.Ref

open Cert.ReferenceIdeal Cert.ReferenceIdeal.Gen
open Idealize.ShloMosaic

/-- The factor on the scores. -/
abbrev eighth : EReal := Ideal.ofBits .f32 0x3E000000#32

/-- The scores. -/
def scores (X : FVec Ideal S2x512x512 .f32) (Wq : FVec Ideal S512x2048 .f32) (K : FVec Ideal S2x128x32x64 .f32) :
    FVec Ideal S2x32x512x128 .f32 :=
  mulf (Host.dotGeneral dot_S2x512x32x64_S2x128x32x64_S2x32x512x128_3_3_1_1_02_02 none
      (shapeCast _ (Host.dotGeneral dot_S2x512x512_S512x2048_S2x512x2048_2_0_01_1_n_n none X Wq) shapeCasts_S2x512x2048_S2x512x32x64) K)
    (broadcastInDim S2x32x512x128 ![] bcast_S_S2x32x512x128 (constant S_ .f32 0x3E000000#32))

/-- The exponentials of the scores less their row's maximum. -/
def probs (s : FVec Ideal S2x32x512x128 .f32) : FVec Ideal S2x32x512x128 .f32 :=
  Host.exp (subf s (broadcastInDim S2x32x512x128 ![0, 1, 2, 3] bcast_S2x32x512x1_S2x32x512x128_0_1_2_3
    (broadcastInDim S2x32x512x1 ![0, 1, 2] bcast_S2x32x512_S2x32x512x1_0_1_2
      (Host.reduce FloatOps.maximumf s (constant S_ .f32 0xFF800000#32) reducesTo_S2x32x512x128_S2x32x512_d3 h_S_))))

/-- The attention: values weighted by the exponentials, divided by their sum. -/
def attn (p : FVec Ideal S2x32x512x128 .f32) (V : FVec Ideal S2x128x32x64 .f32) : FVec Ideal S2x512x32x64 .f32 :=
  Host.divf (transpose S2x512x32x64 [0, 3, 1, 2]
      (Host.dotGeneral dot_S2x128x32x64_S2x32x512x128_S2x32x64x512_1_3_3_2_02_01 none V p) transposes_S2x32x64x512_S2x512x32x64_0_3_1_2)
    (broadcastInDim S2x512x32x64 ![0, 1, 2, 3] bcast_S2x512x32x1_S2x512x32x64_0_1_2_3
      (transpose S2x512x32x1 [0, 2, 1, 3] (broadcastInDim S2x32x512x1 ![0, 1, 2] bcast_S2x32x512_S2x32x512x1_0_1_2
        (Host.reduceAdd p (constant S_ .f32 0x00000000#32) reducesTo_S2x32x512x128_S2x32x512_d3 h_S_)) transposes_S2x32x512x1_S2x512x32x1_0_2_1_3))

/-- The result: the heads side by side times the output weights. -/
def result (X : FVec Ideal S2x512x512 .f32) (Wq : FVec Ideal S512x2048 .f32) (K V : FVec Ideal S2x128x32x64 .f32)
    (Wo : FVec Ideal S2048x512 .f32) : FVec Ideal S2x512x512 .f32 :=
  Host.dotGeneral dot_S2x512x2048_S2048x512_S2x512x512_2_0_01_1_n_n none
    (shapeCast _ (attn (probs (scores X Wq K)) V) shapeCasts_S2x512x32x64_S2x512x2048) Wo

/-- A score. -/
theorem scores_apply (X : FVec Ideal S2x512x512 .f32) (Wq : FVec Ideal S512x2048 .f32) (K : FVec Ideal S2x128x32x64 .f32)
    (b : Fin 2) (h : Fin 32) (i : Fin 512) (j : Fin 128) :
    scores X Wq K (ix4 b h i j)
      = (∑ d : Fin 64, (∑ e : Fin 512, X (ix3 b i e) * Wq (ix2 e ⟨h.val * 64 + d.val, by omega⟩)) * K (ix4 b j h d)) * eighth := by
  pointwise [scores]

/-- The word the maximum starts from is minus infinity. -/
theorem bot_word : Ideal.ofBits .f32 0xFF800000#32 = (⊥ : EReal) := by simp [Ideal.ofBits, Ideal.ieee]

/-- The factor on the scores is a real and not negative. -/
theorem eighth_real : ∃ a : ℝ, 0 ≤ a ∧ eighth = (a : EReal) :=
  ⟨1 / 8, by norm_num, by simp [eighth, Ideal.ofBits, Ideal.ieee, -EReal.coe_mul]; norm_num⟩

/-- An exponential. -/
theorem probs_apply (s : FVec Ideal S2x32x512x128 .f32) (b : Fin 2) (h : Fin 32) (i : Fin 512) (j : Fin 128) :
    probs s (ix4 b h i j)
      = Ideal.exp (s (ix4 b h i j) - Finset.fold max (⊥ : EReal) (fun j' : Fin 128 => s (ix4 b h i j')) Finset.univ) := by
  rw [← bot_word]
  pointwise [probs]

/-- An element of the attention. -/
theorem attn_apply (p : FVec Ideal S2x32x512x128 .f32) (V : FVec Ideal S2x128x32x64 .f32)
    (b : Fin 2) (i : Fin 512) (h : Fin 32) (t : Fin 64) :
    attn p V (ix4 b i h t)
      = Ideal.div (∑ j : Fin 128, V (ix4 b j h t) * p (ix4 b h i j)) (∑ j : Fin 128, p (ix4 b h i j)) := by
  pointwise [attn]

/-- An element of the result. -/
theorem result_apply (X : FVec Ideal S2x512x512 .f32) (Wq : FVec Ideal S512x2048 .f32) (K V : FVec Ideal S2x128x32x64 .f32)
    (Wo : FVec Ideal S2048x512 .f32) (b : Fin 2) (i : Fin 512) (n : Fin 512) :
    result X Wq K V Wo (ix3 b i n)
      = ∑ f : Fin 2048, attn (probs (scores X Wq K)) V (ix4 b i (⟨f.val / 64, by omega⟩ : Fin 32) (⟨f.val % 64, by omega⟩ : Fin 64)) * Wo (ix2 f n) := by
  pointwise [result]

open Idealize.SL.Sem Idealize.ShloMosaic.TcCoe in
/-- The reference's run, at extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.Ref
-- ==== Proof.Half.lean ====
/-
What one device's heads give for one half of some device's activations, and the rows a device writes, as sums of extended reals.
-/
module

public import proofs.«01_k».proof.Proof.Places
public import Idealize.ShloMosaic.Lib.Pointwise

@[expose] public section

noncomputable section

namespace Cert.Talk

open Cert.KernelIdeal Cert.KernelIdeal.Gen
open Idealize.ShloMosaic

/-- The part of the output that the heads of the device with inputs `J` give for the activations `w` of half `b`. -/
def half (J : Inp Ideal) (b : Fin 2) (w : Vec Ideal S1x128x512 .bf16) : FVec Ideal S128x512 .bf16 :=
  k0_pay8 (k0_pay2 J.wq) (k0_pay3 J.wo) (keys J b) (vals J b) w

/-- The score of row `r` of the activations `w` and key `j`, in head `h` of the device with inputs `J`. -/
def score (J : Inp Ideal) (b : Fin 2) (w : Vec Ideal S1x128x512 .bf16) (h : Fin 8) (r j : Fin 128) : EReal :=
  ∑ d : Fin 64, (∑ e : Fin 512, w (ix3 0 r e) * J.wq (ix2 e ⟨h.val * 64 + d.val, by omega⟩)) * keys J b (ix3 h j d)

set_option maxRecDepth 16384 in
/-- An element of a part. -/
theorem half_apply (J : Inp Ideal) (b : Fin 2) (w : Vec Ideal S1x128x512 .bf16) (r : Fin 128) (n : Fin 512) :
    half J b w (ix2 r n) = ∑ h : Fin 8, ∑ t : Fin 64,
      (∑ j : Fin 128, Ideal.exp (score J b w h r j) * vals J b (ix3 h j t)) * Ideal.div 1 (∑ j : Fin 128, Ideal.exp (score J b w h r j))
        * J.wo (ix2 ⟨h.val * 64 + t.val, by omega⟩ n) := by
  unfold half score
  pointwise [k0_pay8, k0_pay2, k0_pay3]

/-- An element of the keys of half `b`, scaled. -/
theorem keys_apply (J : Inp Ideal) (b : Fin 2) (h : Fin 8) (j : Fin 128) (d : Fin 64) :
    keys J b (ix3 h j d) = J.k b (ix3 h j d) * Ideal.ofBits .f32 0x3E000000#32 := by
  fin_cases b
  · show k0_pay4 (J.k 0) (ix3 h j d) = J.k 0 (ix3 h j d) * _
    pointwise [k0_pay4]
  · show k0_pay5 (J.k 1) (ix3 h j d) = J.k 1 (ix3 h j d) * _
    pointwise [k0_pay5]

/-- An element of the values of half `b`. -/
theorem vals_apply (J : Inp Ideal) (b : Fin 2) (h : Fin 8) (j : Fin 128) (d : Fin 64) : vals J b (ix3 h j d) = J.v b (ix3 h j d) := by
  fin_cases b
  · show k0_pay6 (J.v 0) (ix3 h j d) = J.v 0 (ix3 h j d)
    pointwise [k0_pay6]
  · show k0_pay7 (J.v 1) (ix3 h j d) = J.v 1 (ix3 h j d)
    pointwise [k0_pay7]

variable (I : Dev nD → Inp Ideal)

/-- A slot of the activations' buffer holds its source's activations. -/
theorem ldX_apply (c : Dev nD) (s : Fin 4) (b : Fin 2) (r : Fin 128) (e : Fin 512) :
    ldX I c s b (ix3 0 r e) = (I (xsrc c s)).x (ix2 (⟨128 * b.val + r.val, by omega⟩ : Fin 256) e) := by
  show xfin I c ((rectX s b).emb (ix3 0 r e)) = _
  have h0 : (rectX s b).emb (ix3 0 r e) 0 = s := Fin.ext (by show s.val + 1 * 0 = s.val; omega)
  unfold xfin
  rw [h0]
  refine Eq.trans (congrArg (k0_pay1 (I (xsrc c s)).x)
    (a₂ := ix3 (0 : Fin 1) (⟨128 * b.val + r.val, by omega⟩ : Fin 256) e) (funext fun a => Fin.ext ?_)) ?_
  · fin_cases a
    · rfl
    · show 128 * b.val + 1 * r.val = 128 * b.val + r.val
      omega
    · show 0 + 1 * e.val = e.val
      omega
  · pointwise [k0_pay1]

/-- What is stored of a part is the part. -/
theorem part_apply (J : Inp Ideal) (b : Fin 2) (w : Vec Ideal S1x128x512 .bf16) (r : Fin 128) (n : Fin 512) :
    part J b w (ix4 0 0 r n) = half J b w (ix2 r n) := by
  show shapeCast S1x1x128x512 (half J b w) shapeCasts_S128x512_S1x1x128x512 (ix4 0 0 r n) = _
  pointwise

/-- An incoming part is what its source's heads give for this device's activations. -/
theorem ldR_apply (c : Dev nD) (j : Fin 3) (b : Fin 2) (r : Fin 128) (n : Fin 512) :
    ldR I c j b (ix4 0 0 r n) = half (I (rsrc c j)) b (ldX I (rsrc c j) (Fin.succ (rpart j)) b) (ix2 r n) := by
  rw [← part_apply]
  show rfin I c ((rectP j b).emb (ix4 0 0 r n)) = _
  have h0 : (rectP j b).emb (ix4 0 0 r n) 0 = j := Fin.ext (by show j.val + 1 * 0 = j.val; omega)
  have h1 : (rectP j b).emb (ix4 0 0 r n) 1 = b := Fin.ext (by show b.val + 1 * 0 = b.val; omega)
  unfold rfin
  rw [h0, h1]
  show part (I (rsrc c j)) b (ldX I (rsrc c j) (Fin.succ (rpart j)) b) _ = _
  refine congrArg (part (I (rsrc c j)) b (ldX I (rsrc c j) (Fin.succ (rpart j)) b)) (funext fun a => Fin.ext ?_)
  fin_cases a
  · rfl
  · rfl
  · show 0 + 1 * r.val = r.val
    omega
  · show 0 + 1 * n.val = n.val
    omega

/-- The rows a device writes of half `b`. -/
def outb (c : Dev nD) : Fin 2 → Vec Ideal S128x512 .f32
  | 0 => out0 I c | 1 => out1 I c

/-- They are the own part and the three received. -/
theorem outb_apply (c : Dev nD) (b : Fin 2) (r : Fin 128) (n : Fin 512) :
    outb I c b (ix2 r n) = half (I c) b (ldX I c 0 b) (ix2 r n) + ldR I c 0 b (ix4 0 0 r n) + ldR I c 1 b (ix4 0 0 r n) + ldR I c 2 b (ix4 0 0 r n) := by
  fin_cases b
  · show out0 I c (ix2 r n) = _
    unfold out0
    rw [show k0_pay8 (k0_pay2 (I c).wq) (k0_pay3 (I c).wo) (keys (I c) 0) (vals (I c) 0) (ldX I c 0 0) = half (I c) 0 (ldX I c 0 0) from rfl]
    pointwise [k0_pay25, k0_pay23, k0_pay21]
  · show out1 I c (ix2 r n) = _
    unfold out1
    rw [show k0_pay20 (k0_pay19 (k0_pay2 (I c).wq) (k0_pay3 (I c).wo) (keys (I c) 1) (vals (I c) 1) (ldX I c 0 1)) = half (I c) 1 (ldX I c 0 1) from rfl]
    pointwise [k0_pay26, k0_pay24, k0_pay22]

/-- The result of device `c` is the two halves, one above the other. -/
theorem outv_apply (c : Dev nD) (b : Fin 2) (r : Fin 128) (n : Fin 512) :
    outv I c (ix2 (⟨128 * b.val + r.val, by omega⟩ : Fin 256) n) = outb I c b (ix2 r n) := by
  unfold outv
  fin_cases b
  · refine (dif_pos (show 128 * 0 + r.val < 128 by omega)).trans ?_
    refine congrArg (out0 I c) (funext fun a => Fin.ext ?_)
    fin_cases a
    · show 128 * 0 + r.val = r.val
      omega
    · rfl
  · refine (dif_neg (show ¬ 128 * 1 + r.val < 128 by omega)).trans ?_
    refine congrArg (out1 I c) (funext fun a => Fin.ext ?_)
    fin_cases a
    · show 128 * 1 + r.val - 128 = r.val
      omega
    · rfl

/-- Whose activations the part that lands in slot `j` was computed for: the receiver's. -/
theorem xsrc_rsrc (c : Dev nD) (j : Fin 3) : xsrc (rsrc c j) (Fin.succ (rpart j)) = c := by revert c j; decide

/-- A sum over the devices, starting at one of them. -/
theorem sum_around (c : Dev nD) (f : Dev nD → EReal) : f c + f (rsrc c 0) + f (rsrc c 1) + f (rsrc c 2) = ∑ d : Dev nD, f d := by
  rw [show (∑ d : Dev nD, f d) = f 0 + f 1 + f 2 + f 3 from Fin.sum_univ_four f]
  fin_cases c
  · show f 0 + f 3 + f 1 + f 2 = _
    ac_rfl
  · show f 1 + f 0 + f 2 + f 3 = _
    ac_rfl
  · show f 2 + f 1 + f 3 + f 0 = _
    ac_rfl
  · show f 3 + f 2 + f 0 + f 1 = _
    ac_rfl

/-- A part depends on the activations' elements alone. -/
theorem half_congr (J : Inp Ideal) (b : Fin 2) (w w' : Vec Ideal S1x128x512 .bf16) (r : Fin 128) (n : Fin 512)
    (h : ∀ e : Fin 512, w (ix3 0 r e) = w' (ix3 0 r e)) : half J b w (ix2 r n) = half J b w' (ix2 r n) := by
  have hs : ∀ g j, score J b w g r j = score J b w' g r j := fun g j => by
    unfold score
    exact Finset.sum_congr rfl fun d _ => congrArg (· * _) (Finset.sum_congr rfl fun e _ => by rw [h])
  simp only [half_apply, hs]

/-- The result of device `c`: every device's part for its activations, summed. -/
theorem outv_sum (c : Dev nD) (b : Fin 2) (r : Fin 128) (n : Fin 512) :
    outv I c (ix2 (⟨128 * b.val + r.val, by omega⟩ : Fin 256) n) = ∑ d : Dev nD, half (I d) b (ldX I c 0 b) (ix2 r n) := by
  have hl : ∀ j : Fin 3, half (I (rsrc c j)) b (ldX I (rsrc c j) (Fin.succ (rpart j)) b) (ix2 r n)
      = half (I (rsrc c j)) b (ldX I c 0 b) (ix2 r n) := fun j =>
    half_congr _ _ _ _ _ _ fun e => by rw [ldX_apply, ldX_apply, xsrc_rsrc]; rfl
  rw [outv_apply, outb_apply, ldR_apply, ldR_apply, ldR_apply, hl, hl, hl]
  exact sum_around c fun d => half (I d) b (ldX I c 0 b) (ix2 r n)

end Cert.Talk
-- ==== Proof.Hosts.lean ====
/-
What the host hands to the kernel, and what it makes of the kernel's result, read at an index.
-/
module

public import proofs.«01_k».proof.Proof.Region
public import proofs.«01_k».proof.Proof.Gen.KernelIdeal.Launch
public import Idealize.ShloMosaic.Lib.Pointwise

@[expose] public section

noncomputable section

namespace Cert.Talk

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The word the host computes for a device's first head. -/
def headWord : IVec S_ 32 :=
  select (cmpi .slt (muli (Host.remui (Host.divui (constantI S_ 32 (Dev.word c)) (constantI S_ 32 1#32)) (constantI S_ 32 4#32)) (constantI S_ 32 8#32)) (constantI S_ 32 0#32))
    (addi (muli (Host.remui (Host.divui (constantI S_ 32 (Dev.word c)) (constantI S_ 32 1#32)) (constantI S_ 32 4#32)) (constantI S_ 32 8#32)) (constantI S_ 32 32#32))
    (muli (Host.remui (Host.divui (constantI S_ 32 (Dev.word c)) (constantI S_ 32 1#32)) (constantI S_ 32 4#32)) (constantI S_ 32 8#32))

/-- It is eight times the device's number. -/
theorem headWord_toInt (i : S_.Idx) : (headWord c i).toInt = 8 * c.val := by
  have h : ∀ d : Dev nD, (Scalar.select (IntOp.cmpi .slt (IntOp.muli (IntOp.remui .host (IntOp.divui .host d.word 1#32) 4#32) 8#32) 0#32)
      (IntOp.addi (IntOp.muli (IntOp.remui .host (IntOp.divui .host d.word 1#32) 4#32) 8#32) 32#32)
      (IntOp.muli (IntOp.remui .host (IntOp.divui .host d.word 1#32) 4#32) 8#32)).toInt = 8 * d.val := by decide
  exact h c

/-- A device's eight heads of an array of keys or values, a head and a half at a time. -/
def heads (K : FVec F S2x128x32x64 .f32) : FVec F S16x128x64 .f32 :=
  shapeCast _ (transpose S2x8x128x64 [0, 2, 1, 3]
    (Host.dynamicSlice S2x128x8x64 K
      (fun k => ((![constantI S_ 32 0#32, constantI S_ 32 0#32, headWord c, constantI S_ 32 0#32] : Fin 4 → IVec S_ 32) k (Shape.Idx.first h_S_)).toInt)
      sliceFits_S2x128x32x64_S2x128x8x64) transposes_S2x128x8x64_S2x8x128x64_0_2_1_3) shapeCasts_S2x8x128x64_S16x128x64

/-- The host's keys are the device's heads of the key array. -/
theorem V1_v16 : V1 m c main_v16 = heads c (V0 m c main_arg2) := by
  show StableHlo.after (hostOps0 c) (V0 m c) main_v16 = _
  after_results
  refine congrArg (fun s => shapeCast _ (transpose S2x8x128x64 [0, 2, 1, 3] (Host.dynamicSlice S2x128x8x64 (V0 m c main_arg2) s
    sliceFits_S2x128x32x64_S2x128x8x64) transposes_S2x128x8x64_S2x8x128x64_0_2_1_3) shapeCasts_S2x8x128x64_S16x128x64) (funext fun k => congrArg BitVec.toInt ?_)
  generalize hV : HloOp.result (StableHlo.nullary (Val := Elt F) (τ := τ) main_c_6 (constantI S_ 32 0#32 : IVec S_ 32) _) _ = V
  refine congrFun (?_ : _ = (![constantI S_ 32 0#32, constantI S_ 32 0#32, headWord c, constantI S_ 32 0#32] : Fin 4 → IVec S_ 32) k) _
  fin_cases k
  · show V main_c_4 = constantI S_ 32 0#32
    subst hV
    after_results_simp
  · show V main_c_5 = constantI S_ 32 0#32
    subst hV
    after_results_simp
  · show V main_v8 = headWord c
    subst hV
    after_results_simp
    rfl
  · show V main_c_6 = constantI S_ 32 0#32
    subst hV
    after_results_simp

/-- The host's values are the device's heads of the value array. -/
theorem V1_v18 : V1 m c main_v18 = heads c (V0 m c main_arg3) := by
  show StableHlo.after (hostOps0 c) (V0 m c) main_v18 = _
  after_results
  refine congrArg (fun s => shapeCast _ (transpose S2x8x128x64 [0, 2, 1, 3] (Host.dynamicSlice S2x128x8x64 (V0 m c main_arg3) s
    sliceFits_S2x128x32x64_S2x128x8x64) transposes_S2x128x8x64_S2x8x128x64_0_2_1_3) shapeCasts_S2x8x128x64_S16x128x64) (funext fun k => congrArg BitVec.toInt ?_)
  generalize hV : HloOp.result (StableHlo.nullary (Val := Elt F) (τ := τ) main_c_12 (constantI S_ 32 0#32 : IVec S_ 32) _) _ = V
  refine congrFun (?_ : _ = (![constantI S_ 32 0#32, constantI S_ 32 0#32, headWord c, constantI S_ 32 0#32] : Fin 4 → IVec S_ 32) k) _
  fin_cases k
  · show V main_c_10 = constantI S_ 32 0#32
    subst hV
    after_results_simp
  · show V main_c_11 = constantI S_ 32 0#32
    subst hV
    after_results_simp
  · show V main_v13 = headWord c
    subst hV
    after_results_simp
    rfl
  · show V main_c_12 = constantI S_ 32 0#32
    subst hV
    after_results_simp

/-- The host's activations are the device's block, its two halves one above the other. -/
theorem V1_v19 : V1 m c main_v19 = shapeCast _ (V0 m c main_arg0 : FVec F S2x128x512 .f32) shapeCasts_S2x128x512_S256x512 := by
  show StableHlo.after (hostOps0 c) (V0 m c) main_v19 = _
  after_results <;> rfl

/-- The host's result is the kernel's, split into halves again. -/
theorem V3_v21 (outs : Outs) :
    V3 m outs c main_v21 = shapeCast _ (V2 m outs c main_v20 : FVec F S256x512 .f32) shapeCasts_S256x512_S2x128x512 := by
  show StableHlo.after hostOps1 _ main_v21 = _
  after_results <;> rfl

/-- The number of head `h` of device `c`. -/
def headOf (h : Fin 8) : Fin 32 := ⟨8 * c.val + h.val, by have hc : c.val < 4 := c.isLt; omega⟩

/-- An element of a device's heads. -/
theorem heads_apply (K : FVec F S2x128x32x64 .f32) (b : Fin 2) (h : Fin 8) (j : Fin 128) (d : Fin 64) :
    heads c K (ix3 (⟨8 * b.val + h.val, by omega⟩ : Fin 16) j d) = K (ix4 b j (headOf c h) d) := by
  have hc : c.val < 4 := c.isLt
  have hw : ((headWord c (Shape.Idx.first h_S_)).toInt) = 8 * c.val := headWord_toInt c _
  pointwise [heads]
  refine congrArg K (funext fun a => Fin.ext ?_)
  fin_cases a
  · show 0 + b.val = b.val
    omega
  · show 0 + j.val = j.val
    omega
  · show (min (max (headWord c (Shape.Idx.first h_S_)).toInt 0) 24).toNat + h.val = 8 * c.val + h.val
    omega
  · show 0 + d.val = d.val
    omega

/-- An element of the two halves one above the other. -/
theorem halves_apply (X : FVec F S2x128x512 .f32) (b : Fin 2) (r : Fin 128) (e : Fin 512) :
    shapeCast S256x512 X shapeCasts_S2x128x512_S256x512 (ix2 (⟨128 * b.val + r.val, by omega⟩ : Fin 256) e) = X (ix3 b r e) := by
  pointwise

/-- An element of the result, in two halves. -/
theorem split_apply (Y : FVec F S256x512 .f32) (b : Fin 2) (r : Fin 128) (e : Fin 512) :
    shapeCast S2x128x512 Y shapeCasts_S256x512_S2x128x512 (ix3 b r e) = Y (ix2 (⟨128 * b.val + r.val, by omega⟩ : Fin 256) e) := by
  pointwise
  exact congrArg Y (congrArg (fun i => ix2 i e) (Fin.ext (by show b.val * 128 + r.val = 128 * b.val + r.val; omega)))

/-! ## What the body loads -/

variable (b : Fin 2)

/-- The staged activations are the whole array. -/
theorem st0_whole : st0 m c = V1 m c main_v19 := by
  refine funext fun y => congrArg (V1 m c main_v19) (?_ : (win0_0.blk t0_0).view.emb y = y)
  funext a
  apply Fin.ext
  blk_simp
  rw [show win0_0.index t0_0 a = 0 from rfl, Nat.zero_mul, Nat.zero_add]

/-- The staged query weights are the whole array. -/
theorem st1_whole : st1 m c = V1 m c main_arg1 := by
  refine funext fun y => congrArg (V1 m c main_arg1) (?_ : (win0_1.blk t0_0).view.emb y = y)
  funext a
  apply Fin.ext
  blk_simp
  rw [show win0_1.index t0_0 a = 0 from rfl, Nat.zero_mul, Nat.zero_add]

/-- The staged output weights are the whole array. -/
theorem st2_whole : st2 m c = V1 m c main_arg4 := by
  refine funext fun y => congrArg (V1 m c main_arg4) (?_ : (win0_2.blk t0_0).view.emb y = y)
  funext a
  apply Fin.ext
  blk_simp
  rw [show win0_2.index t0_0 a = 0 from rfl, Nat.zero_mul, Nat.zero_add]

/-- The staged keys are the whole array. -/
theorem st3_whole : st3 m c = V1 m c main_v16 := by
  refine funext fun y => congrArg (V1 m c main_v16) (?_ : (win0_3.blk t0_0).view.emb y = y)
  funext a
  apply Fin.ext
  blk_simp
  rw [show win0_3.index t0_0 a = 0 from rfl, Nat.zero_mul, Nat.zero_add]

/-- The staged values are the whole array. -/
theorem st4_whole : st4 m c = V1 m c main_v18 := by
  refine funext fun y => congrArg (V1 m c main_v18) (?_ : (win0_4.blk t0_0).view.emb y = y)
  funext a
  apply Fin.ext
  blk_simp
  rw [show win0_4.index t0_0 a = 0 from rfl, Nat.zero_mul, Nat.zero_add]

/-- The loaded activations are the device's block. -/
theorem inp_x (r : Fin 128) (e : Fin 512) :
    (inp m c).x (ix2 (⟨128 * b.val + r.val, by omega⟩ : Fin 256) e) = (m ((c.tc : Thread nD τ).loc main_arg0) : FVec F S2x128x512 .f32) (ix3 b r e) := by
  refine Eq.trans ?_ (halves_apply (V0 m c main_arg0) b r e)
  rw [← V1_v19, ← st0_whole]
  refine congrArg (st0 m c) (funext fun a => Fin.ext ?_)
  fin_cases a
  · show 0 + 1 * (128 * b.val + r.val) = 128 * b.val + r.val
    omega
  · show 0 + 1 * e.val = e.val
    omega

/-- The loaded query weights are the device's columns. -/
theorem inp_wq (e f : Fin 512) : (inp m c).wq (ix2 e f) = (m ((c.tc : Thread nD τ).loc main_arg1) : FVec F S512x512 .f32) (ix2 e f) := by
  refine Eq.trans ?_ (congrFun ((st1_whole m c).trans (V1_of m c main_arg1 (by decide))) (ix2 e f))
  refine congrArg (st1 m c) (funext fun a => Fin.ext ?_)
  fin_cases a
  · show 0 + 1 * e.val = e.val
    omega
  · show 0 + 1 * f.val = f.val
    omega

/-- The loaded output weights are the device's rows. -/
theorem inp_wo (f n : Fin 512) : (inp m c).wo (ix2 f n) = (m ((c.tc : Thread nD τ).loc main_arg4) : FVec F S512x512 .f32) (ix2 f n) := by
  refine Eq.trans ?_ (congrFun ((st2_whole m c).trans (V1_of m c main_arg4 (by decide))) (ix2 f n))
  refine congrArg (st2 m c) (funext fun a => Fin.ext ?_)
  fin_cases a
  · show 0 + 1 * f.val = f.val
    omega
  · show 0 + 1 * n.val = n.val
    omega

/-- The loaded keys are the device's heads. -/
theorem inp_k (h : Fin 8) (j : Fin 128) (d : Fin 64) :
    (inp m c).k b (ix3 h j d) = (m ((c.tc : Thread nD τ).loc main_arg2) : FVec F S2x128x32x64 .f32) (ix4 b j (headOf c h) d) := by
  refine Eq.trans ?_ (heads_apply c (V0 m c main_arg2) b h j d)
  rw [← V1_v16, ← st3_whole]
  fin_cases b
  all_goals
    refine congrArg (st3 m c) (funext fun a => Fin.ext ?_)
    fin_cases a
  · show 0 + 1 * h.val = 8 * 0 + h.val
    omega
  · show 0 + 1 * j.val = j.val
    omega
  · show 0 + 1 * d.val = d.val
    omega
  · show 8 + 1 * h.val = 8 * 1 + h.val
    omega
  · show 0 + 1 * j.val = j.val
    omega
  · show 0 + 1 * d.val = d.val
    omega

/-- The loaded values are the device's heads. -/
theorem inp_v (h : Fin 8) (j : Fin 128) (d : Fin 64) :
    (inp m c).v b (ix3 h j d) = (m ((c.tc : Thread nD τ).loc main_arg3) : FVec F S2x128x32x64 .f32) (ix4 b j (headOf c h) d) := by
  refine Eq.trans ?_ (heads_apply c (V0 m c main_arg3) b h j d)
  rw [← V1_v18, ← st4_whole]
  fin_cases b
  all_goals
    refine congrArg (st4 m c) (funext fun a => Fin.ext ?_)
    fin_cases a
  · show 0 + 1 * h.val = 8 * 0 + h.val
    omega
  · show 0 + 1 * j.val = j.val
    omega
  · show 0 + 1 * d.val = d.val
    omega
  · show 8 + 1 * h.val = 8 * 1 + h.val
    omega
  · show 0 + 1 * j.val = j.val
    omega
  · show 0 + 1 * d.val = d.val
    omega

/-- The result, read at an index. -/
theorem result_read (r : Fin 128) (n : Fin 512) :
    (V3 m (outs m) c main_v21 : FVec F S2x128x512 .f32) (ix3 b r n) = outv (inp m) c (ix2 (⟨128 * b.val + r.val, by omega⟩ : Fin 256) n) := by
  rw [V3_v21, V2_v20]
  exact split_apply _ b r n

end Cert.Talk
-- ==== Proof.Equation.lean ====
/-
The equation: what a device writes is its block of what the reference computes.
-/
module

public import proofs.«01_k».proof.Proof.Softmax
public import proofs.«01_k».proof.Proof.Reference
public import proofs.«01_k».proof.Proof.Half
public import proofs.«01_k».proof.Proof.Hosts

@[expose] public section

noncomputable section

namespace Cert.Talk

open Cert.KernelIdeal Cert.KernelIdeal.Gen
open Idealize.ShloMosaic
open Cert.Ref (eighth scores probs attn result scores_apply probs_apply attn_apply result_apply eighth_real)

/-! ## Where a device's blocks lie -/

/-- The row of the whole activations that is row `r` of device `c`. -/
def rowOf (c : Dev nD) (r : Fin 128) : Fin 512 := ⟨128 * c.val + r.val, by have hc : c.val < 4 := c.isLt; omega⟩

/-- The column of the query weights, and row of the output weights, that is number `f` of device `c`. -/
def colOf (c : Dev nD) (f : Fin 512) : Fin 2048 := ⟨512 * c.val + f.val, by have hc : c.val < 4 := c.isLt; omega⟩

/-- The devices' loads are the blocks of the five whole arrays. -/
structure Blocks (I : Dev nD → Inp Ideal) (X : FVec Ideal Cert.ReferenceIdeal.S2x512x512 .f32) (Wq : FVec Ideal Cert.ReferenceIdeal.S512x2048 .f32)
    (K V : FVec Ideal Cert.ReferenceIdeal.S2x128x32x64 .f32) (Wo : FVec Ideal Cert.ReferenceIdeal.S2048x512 .f32) : Prop where
  x : ∀ c b (r : Fin 128) (e : Fin 512), (I c).x (ix2 (⟨128 * b.val + r.val, by omega⟩ : Fin 256) e) = X (ix3 (b : Fin 2) (rowOf c r) e)
  wq : ∀ c (e f : Fin 512), (I c).wq (ix2 e f) = Wq (ix2 e (colOf c f))
  wo : ∀ c (f n : Fin 512), (I c).wo (ix2 f n) = Wo (ix2 (colOf c f) n)
  k : ∀ c b (h : Fin 8) (j : Fin 128) (d : Fin 64), (I c).k b (ix3 h j d) = K (ix4 b j (headOf c h) d)
  v : ∀ c b (h : Fin 8) (j : Fin 128) (d : Fin 64), (I c).v b (ix3 h j d) = V (ix4 b j (headOf c h) d)

/-- Every element is a real. -/
def AllReal {s : Shape} (x : FVec Ideal s .f32) : Prop := ∀ i, ∃ a : ℝ, x i = (a : EReal)

variable {I : Dev nD → Inp Ideal} {X : FVec Ideal Cert.ReferenceIdeal.S2x512x512 .f32} {Wq : FVec Ideal Cert.ReferenceIdeal.S512x2048 .f32}
    {K V : FVec Ideal Cert.ReferenceIdeal.S2x128x32x64 .f32} {Wo : FVec Ideal Cert.ReferenceIdeal.S2048x512 .f32}

/-! ## The scores -/

/-- A device's scores are the reference's: the factor moves across the sum. -/
theorem score_eq (B : Blocks I X Wq K V Wo) (c d : Dev nD) (b : Fin 2) (h : Fin 8) (r j : Fin 128) :
    score (I d) b (ldX I c 0 b) h r j = scores X Wq K (ix4 b (headOf d h) (rowOf c r) j) := by
  obtain ⟨a, ha, he⟩ := eighth_real
  rw [scores_apply, mul_comm _ eighth, he, Softmax.mul_sum _ _ ha]
  unfold score
  refine Finset.sum_congr rfl fun t _ => ?_
  rw [keys_apply, B.k, show Ideal.ofBits .f32 0x3E000000#32 = (a : EReal) from he, ← mul_assoc, mul_comm _ (a : EReal)]
  refine congrArg (fun q => (a : EReal) * (q * _)) (Finset.sum_congr rfl fun e _ => ?_)
  rw [ldX_apply, show xsrc c 0 = c from by revert c; decide, B.x, B.wq]
  refine congrArg (fun f => _ * Wq (ix2 e f)) (Fin.ext ?_)
  show 512 * d.val + (h.val * 64 + t.val) = (8 * d.val + h.val) * 64 + t.val
  omega

/-- Reals in, real scores out. -/
theorem scores_real (hX : AllReal X) (hW : AllReal Wq) (hK : AllReal K) : AllReal (scores X Wq K) := by
  intro i
  choose x hx using hX
  choose w hw using hW
  choose k hk using hK
  obtain ⟨a, -, he⟩ := eighth_real
  have h : ∀ (b : Fin 2) (h : Fin 32) (i : Fin 512) (j : Fin 128), ∃ y : ℝ, scores X Wq K (ix4 b h i j) = (y : EReal) := fun b h i j => by
    rw [scores_apply, he]
    simp only [hx, hw, hk, ← EReal.coe_mul, Softmax.coe_sum]
    exact ⟨_, rfl⟩
  rw [eq_ix4 i]
  exact h _ _ _ _

/-! ## The heads -/

/-- One head's attention is the reference's. -/
theorem head_eq (B : Blocks I X Wq K V Wo) (hS : AllReal (scores X Wq K)) (c d : Dev nD) (b : Fin 2) (h : Fin 8) (r : Fin 128) (t : Fin 64) :
    (∑ j : Fin 128, Ideal.exp (score (I d) b (ldX I c 0 b) h r j) * vals (I d) b (ix3 h j t)) * Ideal.div 1 (∑ j : Fin 128, Ideal.exp (score (I d) b (ldX I c 0 b) h r j))
      = attn (probs (scores X Wq K)) V (ix4 b (rowOf c r) (headOf d h) t) := by
  choose s hs using hS
  obtain ⟨M, hM⟩ := Softmax.fold_max_real fun j : Fin 128 => s (ix4 b (headOf d h) (rowOf c r) j)
  simp only [attn_apply, probs_apply, score_eq B, vals_apply, B.v, hs, hM]
  exact Softmax.quotient _ M _

/-! ## The sum over the heads -/

/-- A sum over `a * n` numbers, block by block. -/
theorem sum_blocks (a n : ℕ) (g : Fin (a * n) → EReal) :
    ∑ f, g f = ∑ i : Fin a, ∑ j : Fin n, g ⟨n * i.val + j.val, by
      have hi := i.isLt; have hj := j.isLt
      calc n * i.val + j.val < n * i.val + n := by omega
        _ = n * (i.val + 1) := by ring
        _ ≤ n * a := Nat.mul_le_mul_left _ hi
        _ = a * n := mul_comm _ _⟩ := by
  rw [← Equiv.sum_comp finProdFinEquiv, Fintype.sum_prod_type]
  refine Finset.sum_congr rfl fun i _ => Finset.sum_congr rfl fun j _ => congrArg g (Fin.ext ?_)
  show j.val + n * i.val = n * i.val + j.val
  omega

/-- What a device writes is its block of the reference's result. -/
theorem outv_eq (B : Blocks I X Wq K V Wo) (hX : AllReal X) (hW : AllReal Wq) (hK : AllReal K) (c : Dev nD) (b : Fin 2) (r : Fin 128) (n : Fin 512) :
    outv I c (ix2 (⟨128 * b.val + r.val, by omega⟩ : Fin 256) n) = result X Wq K V Wo (ix3 b (rowOf c r) n) := by
  rw [outv_sum, result_apply]
  refine Eq.trans ?_ (sum_blocks 4 512 _).symm
  refine Finset.sum_congr rfl fun d _ => ?_
  rw [half_apply]
  refine Eq.trans ?_ (sum_blocks 8 64 _).symm
  refine Finset.sum_congr rfl fun h _ => Finset.sum_congr rfl fun t _ => ?_
  rw [head_eq B (scores_real hX hW hK), B.wo]
  have hd : d.val < 4 := d.isLt
  have e1 : headOf d h = (⟨(512 * d.val + (64 * h.val + t.val)) / 64, by omega⟩ : Fin 32) := Fin.ext (by
    show 8 * d.val + h.val = (512 * d.val + (64 * h.val + t.val)) / 64
    omega)
  have e2 : t = (⟨(512 * d.val + (64 * h.val + t.val)) % 64, by omega⟩ : Fin 64) := Fin.ext (by
    show t.val = (512 * d.val + (64 * h.val + t.val)) % 64
    omega)
  have e3 : colOf d (⟨h.val * 64 + t.val, by omega⟩ : Fin 512) = (⟨512 * d.val + (64 * h.val + t.val), by omega⟩ : Fin 2048) := Fin.ext (by
    show 512 * d.val + (h.val * 64 + t.val) = 512 * d.val + (64 * h.val + t.val)
    omega)
  exact congrArg₂ (· * ·) (congrArg₂ (fun H T => attn (probs (scores X Wq K)) V (ix4 b (rowOf c r) H T)) e1 e2) (congrArg (fun f => Wo (ix2 f n)) e3)

end Cert.Talk
-- ==== Proof.Whole.lean ====
/-
The whole arrays: what the devices' blocks say of them, and what the precondition says.
-/
module

public import proofs.«01_k».proof.Defs
public import proofs.«01_k».proof.Proof.Equation

@[expose] public section

noncomputable section

namespace Cert.Talk

open Cert.KernelIdeal Cert.KernelIdeal.Gen
open Idealize.ShloMosaic Idealize.ShloMosaic.TcCoe

/-! ## Blocks, by coordinates -/

/-- A device's block of the activations, or of the result. -/
theorem block_rows (c : Dev nD) (X : FVec Ideal Cert.ReferenceIdeal.S2x512x512 .f32) (b : Fin 2) (r : Fin 128) (e : Fin 512) :
    Layout.block ⟨3, ![2, 128, 512]⟩ ⟨3, ![2, 512, 512]⟩ 1 4 c X (by decide) (ix3 b r e) = X (ix3 b (rowOf c r) e) := by
  refine congrArg X (funext fun a => Fin.ext ?_)
  fin_cases a
  · rfl
  · show c.val * 128 + r.val = 128 * c.val + r.val
    omega
  · rfl

/-- A device's block of the query weights. -/
theorem block_cols (c : Dev nD) (W : FVec Ideal Cert.ReferenceIdeal.S512x2048 .f32) (e f : Fin 512) :
    Layout.block ⟨2, ![512, 512]⟩ ⟨2, ![512, 2048]⟩ 1 4 c W (by decide) (ix2 e f) = W (ix2 e (colOf c f)) := by
  refine congrArg W (funext fun a => Fin.ext ?_)
  fin_cases a
  · rfl
  · show c.val * 512 + f.val = 512 * c.val + f.val
    omega

/-- A device's block of the output weights. -/
theorem block_outs (c : Dev nD) (W : FVec Ideal Cert.ReferenceIdeal.S2048x512 .f32) (f n : Fin 512) :
    Layout.block ⟨2, ![512, 512]⟩ ⟨2, ![2048, 512]⟩ 0 4 c W (by decide) (ix2 f n) = W (ix2 (colOf c f) n) := by
  refine congrArg W (funext fun a => Fin.ext ?_)
  fin_cases a
  · show c.val * 512 + f.val = 512 * c.val + f.val
    omega
  · rfl

/-- Activations of which every device's block is real are real. -/
theorem real_of_rows {X : FVec Ideal Cert.ReferenceIdeal.S2x512x512 .f32}
    (h : ∀ c : Dev nD, AllReal (s := S2x128x512) (Layout.block ⟨3, ![2, 128, 512]⟩ ⟨3, ![2, 512, 512]⟩ 1 4 c X (by decide))) : AllReal X := by
  have hi : ∀ (b : Fin 2) (i e : Fin 512), ∃ a : ℝ, X (ix3 b i e) = (a : EReal) := fun b i e => by
    have hb := h (⟨i.val / 128, by show i.val / 128 < 4; omega⟩ : Dev nD) (ix3 b (⟨i.val % 128, by omega⟩ : Fin 128) e)
    rw [block_rows] at hb
    refine (show rowOf _ _ = i from Fin.ext ?_) ▸ hb
    show 128 * (i.val / 128) + i.val % 128 = i.val
    omega
  intro i
  rw [eq_ix3 i]
  exact hi _ _ _

/-- Query weights of which every device's block is real are real. -/
theorem real_of_cols {W : FVec Ideal Cert.ReferenceIdeal.S512x2048 .f32}
    (h : ∀ c : Dev nD, AllReal (s := S512x512) (Layout.block ⟨2, ![512, 512]⟩ ⟨2, ![512, 2048]⟩ 1 4 c W (by decide))) : AllReal W := by
  have hi : ∀ (e : Fin 512) (f : Fin 2048), ∃ a : ℝ, W (ix2 e f) = (a : EReal) := fun e f => by
    have hb := h (⟨f.val / 512, by show f.val / 512 < 4; omega⟩ : Dev nD) (ix2 e (⟨f.val % 512, by omega⟩ : Fin 512))
    rw [block_cols] at hb
    refine (show colOf _ _ = f from Fin.ext ?_) ▸ hb
    show 512 * (f.val / 512) + f.val % 512 = f.val
    omega
  intro i
  rw [eq_ix2 i]
  exact hi _ _

/-! ## The precondition -/

/-- An extended real of absolute value below plus infinity is a real. -/
theorem real_of_abs (x : EReal) (h : max x (-x) < ⊤) : ∃ a : ℝ, x = (a : EReal) := by
  induction x using EReal.rec with
  | bot => simp at h
  | coe a => exact ⟨a, rfl⟩
  | top => simp at h

/-- The precondition's comparison, all ones, says every element is a real. -/
theorem real_of_test {s : Shape} (x : FVec Ideal s .f32) (hb : S_.BroadcastsInDim s ![])
    (h : cmpf .olt (Host.absf x) (broadcastInDim s ![] hb (constant S_ .f32 0x7F800000#32)) = fun _ => 1#1) : AllReal x := by
  intro i
  have hi : Ideal.cmp .olt (max (x i) (-x i)) (Ideal.ofBits .f32 0x7F800000#32) = 1#1 := congrFun h i
  rw [show Ideal.ofBits .f32 0x7F800000#32 = (⊤ : EReal) by simp [Ideal.ofBits, Ideal.ieee]] at hi
  refine real_of_abs (x i) ?_
  by_contra hn
  simp [Ideal.cmp, hn] at hi

end Cert.Talk
-- ==== Proof.Agree.lean ====
/-
Both runs: from memories that agree block by block, the kernel's result ends as the blocks of the reference's.
-/
module

public import proofs.«01_k».proof.Defs
public import proofs.«01_k».proof.Proof.Whole
public import proofs.«01_k».proof.Proof.Launch
public import proofs.«01_k».proof.Proof.Gen.KernelIdeal
public import proofs.«01_k».proof.Proof.Gen.ReferenceIdeal

@[expose] public section

noncomputable section

namespace Cert.Talk

open Cert.KernelIdeal Cert.KernelIdeal.Gen
open Idealize.ShloMosaic Idealize.ShloMosaic.TcCoe

/-- The shape relations of the precondition, on one device's blocks. -/
theorem pre_facts : Cert.Pre_finite_inputs_KernelIdeal.Facts := ⟨by decide, by decide, by decide⟩

/-- The shape relations of the precondition, on the whole arrays. -/
theorem pre_facts_whole : Cert.Pre_finite_inputs_ReferenceIdeal.Facts := ⟨by decide, by decide, by decide⟩

variable (m : (ℓ : Loc nD τ sig) → Buf (Elt Ideal) ℓ)

/-- One device's block of the activations, its block of the query weights and its keys are reals. -/
theorem reals_of_pre (h : Cert.Pre_KernelIdeal_finite_inputs_KernelIdeal (hPre_finite_inputs_KernelIdeal := pre_facts) m) (c : Dev nD) :
    AllReal (s := S2x128x512) (m ((c.tc : Thread nD τ).loc main_arg0)) ∧ AllReal (s := S512x512) (m ((c.tc : Thread nD τ).loc main_arg1))
      ∧ AllReal (s := S2x128x32x64) (m ((c.tc : Thread nD τ).loc main_arg2)) :=
  ⟨real_of_test _ _ (h c).1, real_of_test _ _ (h c).2.1, real_of_test _ _ (h c).2.2⟩

/-- The kernel and the reference agree at the extended reals. -/
theorem agree : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := pre_facts) := by
  intro m g m' g' hp hm
  have hr := reals_of_pre m hp
  have hX := real_of_rows fun c => (hm c).1 ▸ (hr c).1
  have hW := real_of_cols fun c => (hm c).2.1 ▸ (hr c).2.1
  have hK := (hm 0).2.2.1 ▸ (hr 0).2.2
  have B : Blocks (inp m) _ _ _ _ _ :=
    { x := fun c b r e => (inp_x m c b r e).trans ((congrFun (hm c).1 _).trans (block_rows c _ b r e))
      wq := fun c e f => (inp_wq m c e f).trans ((congrFun (hm c).2.1 _).trans (block_cols c _ e f))
      wo := fun c f n => (inp_wo m c f n).trans ((congrFun (hm c).2.2.2.2 _).trans (block_outs c _ f n))
      k := fun c b h j d => (inp_k m c b h j d).trans (congrFun (hm c).2.2.1 _)
      v := fun c b h j d => (inp_v m c b h j d).trans (congrFun (hm c).2.2.2.1 _) }
  refine ⟨_, (θ_run Cert.KernelIdeal.defs _ _).mono (fun r h c => ⟨(h.1 c).2.trans ?_, (h.1 c).1⟩) (run_main m g),
    (θ_run Cert.ReferenceIdeal.defs _ _).mono (fun r h => h 0) (Cert.Ref.run m' g')⟩
  have e : ∀ (b : Fin 2) (r : Fin 128) (n : Fin 512), (V3 m (outs m) c main_v21 : FVec Ideal S2x128x512 .f32) (ix3 b r n) = _ := fun b r n =>
    (result_read m c b r n).trans ((outv_eq B hX hW hK c b r n).trans (block_rows c _ b r n).symm)
  funext i
  rw [eq_ix3 i]
  exact e _ _ _

end Cert.Talk
-- ==== Proof.lean ====
/-
The claim: the kernel's frames off its run, read at both kinds of float values, the reference's off its own, and the agreement of the two.
-/
module

public import proofs.«01_k».proof.Defs
public import proofs.«01_k».proof.Proof.Launch
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The two prints of the kernel have the same body table, label by label. -/
theorem defs₀_same : Cert.Kernel.defs₀ (F := Bits) = Cert.KernelIdeal.defs₀ (F := Bits) := by
  refine congrArg Defs.onTc ?_
  funext l p
  fin_cases l
  rfl

/-- Hence the same table of all bodies. -/
theorem defs_same : Cert.Kernel.defs (F := Bits) = Cert.KernelIdeal.defs (F := Bits) := by
  unfold Cert.Kernel.defs
  rw [defs₀_same]
  rfl

/-- And the same program on every device. -/
theorem main_same : Cert.Kernel.main (F := Bits) = Cert.KernelIdeal.main (F := Bits) := rfl

/-- The kernel runs, leaves its arguments and its counters as they were, at machine floats. -/
theorem frame_kernel : Cert.quiescent_Kernel (hKernel := Cert.Kernel.Gen.facts) := fun m ρ _ => by
  rw [defs_same, main_same]
  exact Cert.Talk.frame_main (F := Bits) m ρ

/-- The same at the extended reals. -/
theorem frame_kernelIdeal : Cert.quiescent_KernelIdeal (hKernelIdeal := Cert.KernelIdeal.Gen.facts) := fun m ρ _ =>
  Cert.Talk.frame_main (F := Ideal) m ρ

/-- The reference runs and leaves its arguments and its counters as they were. -/
theorem frame_referenceIdeal : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's frame does not need the precondition. -/
theorem frame_kernelIdeal_pre : Cert.quiescent_KernelIdeal_pre_finite_inputs_KernelIdeal (hKernelIdeal := Cert.KernelIdeal.Gen.facts)
    (hPre_finite_inputs_KernelIdeal := Cert.Talk.pre_facts) := fun m ρ _ => frame_kernelIdeal m ρ trivial

/-- Nor does the reference's. -/
theorem frame_referenceIdeal_pre : Cert.quiescent_ReferenceIdeal_pre_finite_inputs_ReferenceIdeal (hReferenceIdeal := Cert.ReferenceIdeal.Gen.facts)
    (hPre_finite_inputs_ReferenceIdeal := Cert.Talk.pre_facts_whole) := fun m ρ _ => frame_referenceIdeal m ρ trivial

theorem claim : Cert.Claim := ⟨Cert.Kernel.Gen.facts, Cert.KernelIdeal.Gen.facts, Cert.ReferenceIdeal.Gen.facts,
  Cert.Talk.pre_facts, Cert.Talk.pre_facts_whole,
  frame_kernel, frame_kernelIdeal, frame_kernelIdeal_pre, frame_referenceIdeal, frame_referenceIdeal_pre, trivial, Cert.Talk.agree⟩

end Cert.Proof

end
